-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_range [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_types_in_range [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_types_in_range [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53_1)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_1) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel)
    ∧ quiescent_KernelIdeal (hKernelIdeal := hKernelIdeal)
    ∧ quiescent_KernelIdeal_pre_types_in_range (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal_pre_types_in_range (hKernelIdeal := hKernelIdeal) (hReferenceIdeal := hReferenceIdeal) (hPre_types_in_range := hPre_types_in_range)
-- ==== Pre_types_in_range.lean ====
abbrev S1x10000x2x64 : Shape := ⟨4, ![1, 10000, 2, 64]⟩
abbrev S10000 : Shape := ⟨1, ![10000]⟩
abbrev S2 : Shape := ⟨1, ![2]⟩
abbrev S1x10000x128x4 : Shape := ⟨4, ![1, 10000, 128, 4]⟩
abbrev S1x10000x2 : Shape := ⟨3, ![1, 10000, 2]⟩
abbrev S_ : Shape := ⟨0, ![]⟩
abbrev S2x2x8x12 : Shape := ⟨4, ![2, 2, 8, 12]⟩
abbrev S2x64x64 : Shape := ⟨3, ![2, 64, 64]⟩
abbrev S2x64 : Shape := ⟨2, ![2, 64]⟩
abbrev S2x64x1 : Shape := ⟨3, ![2, 64, 1]⟩
abbrev S2x1 : Shape := ⟨2, ![2, 1]⟩

class Facts : Prop where
  bcast_S_S10000 : S_.BroadcastsInDim S10000 (![] : Fin 0 → Fin S10000.rank)
  reducesTo_S10000_S_d0 : S10000.ReducesTo [0] S_
  h_S_ : 0 < S_.numel

variable [Facts]

def fn {F : FTy → Type} [FloatOps F] (main_arg0 : IVec S1x10000x2x64 32) (main_arg1 : IVec S10000 32) (main_arg2 : IVec S2 32) (main_arg3 : FVec F S1x10000x128x4 .f32) (main_arg4 : IVec S1x10000x2 32) (main_arg5 : IVec S_ 32) (main_arg6 : FVec F S2x2x8x12 .f32) (main_arg7 : FVec F S2x64x64 .f32) (main_arg8 : FVec F S2x64 .f32) (main_arg9 : FVec F S2x64x64 .f32) (main_arg10 : FVec F S2x64 .f32) (main_arg11 : FVec F S2x64x1 .f32) (main_arg12 : FVec F S2x1 .f32) : IVec S_ 1 :=
  let main_c : IVec S_ 32 := constantI S_ 32 0#32
  let main_v0 : IVec S10000 32 := broadcastInDim S10000 ![] bcast_S_S10000 main_c
  let main_v1 : IVec S10000 1 := cmpi .sge main_arg1 main_v0
  let main_c_0 : IVec S_ 32 := constantI S_ 32 2#32
  let main_v2 : IVec S10000 32 := broadcastInDim S10000 ![] bcast_S_S10000 main_c_0
  let main_v3 : IVec S10000 1 := cmpi .slt main_arg1 main_v2
  let main_v4 : IVec S10000 1 := andi main_v1 main_v3
  let main_c_1 : IVec S_ 1 := constantI S_ 1 1#1
  let main_v5 : IVec S_ 1 := (fun x v => Host.reduce IntOp.andi x v reducesTo_S10000_S_d0 h_S_) main_v4 main_c_1
  main_v5
-- ==== Kernel.lean ====
abbrev S1x10000x2x64 : Shape := ⟨4, ![1, 10000, 2, 64]⟩
abbrev S10000 : Shape := ⟨1, ![10000]⟩
abbrev S2 : Shape := ⟨1, ![2]⟩
abbrev S1x10000x128x4 : Shape := ⟨4, ![1, 10000, 128, 4]⟩
abbrev S1x10000x2 : Shape := ⟨3, ![1, 10000, 2]⟩
abbrev S_ : Shape := ⟨0, ![]⟩
abbrev S2x2x8x12 : Shape := ⟨4, ![2, 2, 8, 12]⟩
abbrev S2x64x64 : Shape := ⟨3, ![2, 64, 64]⟩
abbrev S2x64 : Shape := ⟨2, ![2, 64]⟩
abbrev S2x64x1 : Shape := ⟨3, ![2, 64, 1]⟩
abbrev S2x1 : Shape := ⟨2, ![2, 1]⟩
abbrev S128 : Shape := ⟨1, ![128]⟩
abbrev S8x64 : Shape := ⟨2, ![8, 64]⟩
abbrev S10000x128x4 : Shape := ⟨3, ![10000, 128, 4]⟩
abbrev S10000x128x1 : Shape := ⟨3, ![10000, 128, 1]⟩
abbrev S10000x128 : Shape := ⟨2, ![10000, 128]⟩
abbrev S10000x2 : Shape := ⟨2, ![10000, 2]⟩
abbrev S10000x1 : Shape := ⟨2, ![10000, 1]⟩
abbrev S128x1 : Shape := ⟨2, ![128, 1]⟩
abbrev S2x128x8x12 : Shape := ⟨4, ![2, 128, 8, 12]⟩
abbrev S12x128x2x8 : Shape := ⟨4, ![12, 128, 2, 8]⟩
abbrev S1536x16 : Shape := ⟨2, ![1536, 16]⟩
abbrev S1x8x64 : Shape := ⟨3, ![1, 8, 64]⟩
abbrev S1x64x64 : Shape := ⟨3, ![1, 64, 64]⟩
abbrev S64x64 : Shape := ⟨2, ![64, 64]⟩
abbrev S64x128 : Shape := ⟨2, ![64, 128]⟩
abbrev S1x64x128 : Shape := ⟨3, ![1, 64, 128]⟩
abbrev S1x64 : Shape := ⟨2, ![1, 64]⟩
abbrev S64 : Shape := ⟨1, ![64]⟩
abbrev S1x1x128 : Shape := ⟨3, ![1, 1, 128]⟩
abbrev S128x128 : Shape := ⟨2, ![128, 128]⟩
abbrev S1x128x128 : Shape := ⟨3, ![1, 128, 128]⟩
abbrev S1x64x1 : Shape := ⟨3, ![1, 64, 1]⟩
abbrev S64x1 : Shape := ⟨2, ![64, 1]⟩
abbrev S1x128x1 : Shape := ⟨3, ![1, 128, 1]⟩
abbrev S1x1x2 : Shape := ⟨3, ![1, 1, 2]⟩
abbrev S1x1 : Shape := ⟨2, ![1, 1]⟩
abbrev S400x128 : Shape := ⟨2, ![400, 128]⟩
abbrev S400x2 : Shape := ⟨2, ![400, 2]⟩
abbrev S400x1 : Shape := ⟨2, ![400, 1]⟩
abbrev S400x1536 : Shape := ⟨2, ![400, 1536]⟩
abbrev S400x16 : Shape := ⟨2, ![400, 16]⟩
abbrev S400x8 : Shape := ⟨2, ![400, 8]⟩
abbrev S400x64 : Shape := ⟨2, ![400, 64]⟩
abbrev S1x128 : Shape := ⟨2, ![1, 128]⟩
abbrev S1x1x1 : Shape := ⟨3, ![1, 1, 1]⟩
abbrev S1x400x1 : Shape := ⟨3, ![1, 400, 1]⟩
abbrev S1 : Shape := ⟨1, ![1]⟩
abbrev S1x10000 : Shape := ⟨2, ![1, 10000]⟩

abbrev nBuf : Space → Nat
  | .hbm => 75
  | .vmem => 17
  | .smem => 0
  | _ => 0

abbrev bufTy : (tb : Table) → Fin (tcTables nBuf tb) → BufTy
  | .hbm, ⟨0, _⟩ => ⟨S1x10000x2x64, .i32⟩
  | .hbm, ⟨1, _⟩ => ⟨S10000, .i32⟩
  | .hbm, ⟨2, _⟩ => ⟨S2, .i32⟩
  | .hbm, ⟨3, _⟩ => ⟨S1x10000x128x4, .f32⟩
  | .hbm, ⟨4, _⟩ => ⟨S1x10000x2, .i32⟩
  | .hbm, ⟨5, _⟩ => ⟨S_, .i32⟩
  | .hbm, ⟨6, _⟩ => ⟨S2x2x8x12, .f32⟩
  | .hbm, ⟨7, _⟩ => ⟨S2x64x64, .f32⟩
  | .hbm, ⟨8, _⟩ => ⟨S2x64, .f32⟩
  | .hbm, ⟨9, _⟩ => ⟨S2x64x64, .f32⟩
  | .hbm, ⟨10, _⟩ => ⟨S2x64, .f32⟩
  | .hbm, ⟨11, _⟩ => ⟨S2x64x1, .f32⟩
  | .hbm, ⟨12, _⟩ => ⟨S2x1, .f32⟩
  | .hbm, ⟨13, _⟩ => ⟨S128, .i32⟩
  | .hbm, ⟨14, _⟩ => ⟨S8x64, .f32⟩
  | .hbm, ⟨15, _⟩ => ⟨S10000x128x4, .f32⟩
  | .hbm, ⟨16, _⟩ => ⟨S10000x128x1, .f32⟩
  | .hbm, ⟨17, _⟩ => ⟨S10000x128, .f32⟩
  | .hbm, ⟨18, _⟩ => ⟨S10000x2, .i32⟩
  | .hbm, ⟨19, _⟩ => ⟨S10000x1, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S2x128x8x12, .f32⟩
  | .hbm, ⟨29, _⟩ => ⟨S_, .f32⟩
  | .hbm, ⟨30, _⟩ => ⟨S2x128x8x12, .f32⟩
  | .hbm, ⟨31, _⟩ => ⟨S2x128x8x12, .f32⟩
  | .hbm, ⟨32, _⟩ => ⟨S12x128x2x8, .f32⟩
  | .hbm, ⟨33, _⟩ => ⟨S1536x16, .f32⟩
  | .hbm, ⟨34, _⟩ => ⟨S1x8x64, .f32⟩
  | .hbm, ⟨35, _⟩ => ⟨S1x64x64, .f32⟩
  | .hbm, ⟨36, _⟩ => ⟨S64x64, .f32⟩
  | .hbm, ⟨37, _⟩ => ⟨S1x64x64, .f32⟩
  | .hbm, ⟨38, _⟩ => ⟨S64x64, .f32⟩
  | .hbm, ⟨39, _⟩ => ⟨S64x128, .f32⟩
  | .hbm, ⟨40, _⟩ => ⟨S1x64x128, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S64, .f32⟩
  | .hbm, ⟨45, _⟩ => ⟨S128, .f32⟩
  | .hbm, ⟨46, _⟩ => ⟨S1x1x128, .f32⟩
  | .hbm, ⟨47, _⟩ => ⟨S1x64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S64x128, .f32⟩
  | .hbm, ⟨54, _⟩ => ⟨S1x64x64, .f32⟩
  | .hbm, ⟨55, _⟩ => ⟨S64x64, .f32⟩
  | .hbm, ⟨56, _⟩ => ⟨S64x128, .f32⟩
  | .hbm, ⟨57, _⟩ => ⟨S128x128, .f32⟩
  | .hbm, ⟨58, _⟩ => ⟨S1x128x128, .f32⟩
  | .hbm, ⟨59, _⟩ => ⟨S1x64, .f32⟩
  | .hbm, ⟨60, _⟩ => ⟨S64, .f32⟩
  | .hbm, ⟨61, _⟩ => ⟨S1x64, .f32⟩
  | .hbm, ⟨62, _⟩ => ⟨S64, .f32⟩
  | .hbm, ⟨63, _⟩ => ⟨S128, .f32⟩
  | .hbm, ⟨64, _⟩ => ⟨S1x1x128, .f32⟩
  | .hbm, ⟨65, _⟩ => ⟨S1x64x1, .f32⟩
  | .hbm, ⟨66, _⟩ => ⟨S64x1, .f32⟩
  | .hbm, ⟨67, _⟩ => ⟨S1x64x1, .f32⟩
  | .hbm, ⟨68, _⟩ => ⟨S64x1, .f32⟩
  | .hbm, ⟨69, _⟩ => ⟨S128x1, .f32⟩
  | .hbm, ⟨70, _⟩ => ⟨S1x128x1, .f32⟩
  | .hbm, ⟨71, _⟩ => ⟨S1x1x2, .f32⟩
  | .hbm, ⟨72, _⟩ => ⟨S10000x1, .f32⟩
  | .hbm, ⟨73, _⟩ => ⟨S1x1, .f32⟩
  | .hbm, ⟨74, _⟩ => ⟨S1x10000, .f32⟩
  | .local _ .vmem, ⟨0, _⟩ => ⟨S400x128, .f32⟩
  | .local _ .vmem, ⟨1, _⟩ => ⟨S400x128, .f32⟩
  | .local _ .vmem, ⟨2, _⟩ => ⟨S400x2, .i32⟩
  | .local _ .vmem, ⟨3, _⟩ => ⟨S400x2, .i32⟩
  | .local _ .vmem, ⟨4, _⟩ => ⟨S400x1, .i32⟩
  | .local _ .vmem, ⟨5, _⟩ => ⟨S400x1, .i32⟩
  | .local _ .vmem, ⟨6, _⟩ => ⟨S1536x16, .f32⟩
  | .local _ .vmem, ⟨7, _⟩ => ⟨S1x64x128, .f32⟩
  | .local _ .vmem, ⟨8, _⟩ => ⟨S1x1x128, .f32⟩
  | .local _ .vmem, ⟨9, _⟩ => ⟨S1x128x128, .f32⟩
  | .local _ .vmem, ⟨10, _⟩ => ⟨S1x1x128, .f32⟩
  | .local _ .vmem, ⟨11, _⟩ => ⟨S1x128x1, .f32⟩
  | .local _ .vmem, ⟨12, _⟩ => ⟨S1x1x2, .f32⟩
  | .local _ .vmem, ⟨13, _⟩ => ⟨S1x8x64, .f32⟩
  | .local _ .vmem, ⟨14, _⟩ => ⟨S400x1, .f32⟩
  | .local _ .vmem, ⟨15, _⟩ => ⟨S400x1, .f32⟩
  | .local _ .vmem, ⟨16, _⟩ => ⟨S1x1, .f32⟩
  | _, _ => ⟨S1x10000x2x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S400x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x10000x2x64 : Shape := ⟨4, ![1, 10000, 2, 64]⟩
abbrev S10000 : Shape := ⟨1, ![10000]⟩
abbrev S2 : Shape := ⟨1, ![2]⟩
abbrev S1x10000x128x4 : Shape := ⟨4, ![1, 10000, 128, 4]⟩
abbrev S1x10000x2 : Shape := ⟨3, ![1, 10000, 2]⟩
abbrev S_ : Shape := ⟨0, ![]⟩
abbrev S2x2x8x12 : Shape := ⟨4, ![2, 2, 8, 12]⟩
abbrev S2x64x64 : Shape := ⟨3, ![2, 64, 64]⟩
abbrev S2x64 : Shape := ⟨2, ![2, 64]⟩
abbrev S2x64x1 : Shape := ⟨3, ![2, 64, 1]⟩
abbrev S2x1 : Shape := ⟨2, ![2, 1]⟩
abbrev S1x10000x128x1 : Shape := ⟨4, ![1, 10000, 128, 1]⟩
abbrev S1x10000x128 : Shape := ⟨3, ![1, 10000, 128]⟩
abbrev S64 : Shape := ⟨1, ![64]⟩
abbrev S1x1x1x64 : Shape := ⟨4, ![1, 1, 1, 64]⟩
abbrev S1x10000x2x1 : Shape := ⟨4, ![1, 10000, 2, 1]⟩
abbrev S1x10000x2x64x1 : Shape := ⟨5, ![1, 10000, 2, 64, 1]⟩
abbrev S1x10000x2x64x12 : Shape := ⟨5, ![1, 10000, 2, 64, 12]⟩
abbrev S10000x1 : Shape := ⟨2, ![10000, 1]⟩
abbrev S1 : Shape := ⟨1, ![1]⟩
abbrev S1x1 : Shape := ⟨2, ![1, 1]⟩
abbrev S10000x2x8x12 : Shape := ⟨4, ![10000, 2, 8, 12]⟩
abbrev S10000x2x8x1x64 : Shape := ⟨5, ![10000, 2, 8, 1, 64]⟩
abbrev S1x10000x2x64x8 : Shape := ⟨5, ![1, 10000, 2, 64, 8]⟩
abbrev S1x10000x8 : Shape := ⟨3, ![1, 10000, 8]⟩
abbrev S1x10000x8x1 : Shape := ⟨4, ![1, 10000, 8, 1]⟩
abbrev S1x10000x1x8 : Shape := ⟨4, ![1, 10000, 1, 8]⟩
abbrev S1x10000x8x8 : Shape := ⟨4, ![1, 10000, 8, 8]⟩
abbrev S1x10000x64 : Shape := ⟨3, ![1, 10000, 64]⟩
abbrev S10000x64x64 : Shape := ⟨3, ![10000, 64, 64]⟩
abbrev S10000x64x1 : Shape := ⟨3, ![10000, 64, 1]⟩
abbrev S10000x64 : Shape := ⟨2, ![10000, 64]⟩
abbrev S10000x1x1 : Shape := ⟨3, ![10000, 1, 1]⟩
abbrev S1x10000x1 : Shape := ⟨3, ![1, 10000, 1]⟩
abbrev S1x10000 : Shape := ⟨2, ![1, 10000]⟩

abbrev nBuf : Space → Nat
  | .hbm => 330
  | .vmem => 0
  | .smem => 0
  | _ => 0

abbrev hbmTy0_0 (i : Nat) : BufTy := match i % 128 with
  | 0 => ⟨S1x10000x2x64, .i32⟩
  | 1 => ⟨S10000, .i32⟩
  | 2 => ⟨S2, .i32⟩
  | 3 => ⟨S1x10000x128x4, .f32⟩
  | 4 => ⟨S1x10000x2, .i32⟩
  | 5 => ⟨S_, .i32⟩
  | 6 => ⟨S2x2x8x12, .f32⟩
  | 7 => ⟨S2x64x64, .f32⟩
  | 8 => ⟨S2x64, .f32⟩
  | 9 => ⟨S2x64x64, .f32⟩
  | 10 => ⟨S2x64, .f32⟩
  | 11 => ⟨S2x64x1, .f32⟩
  | 12 => ⟨S2x1, .f32⟩
  | 13 => ⟨S1x10000x128x1, .f32⟩
  | 14 => ⟨S1x10000x128, .f32⟩
  | 15 => ⟨S1x10000x2x64, .f32⟩
  | 16 => ⟨S_, .f32⟩
  | 17 => ⟨S1x10000x2x64, .f32⟩
  | 18 => ⟨S1x10000x2x64, .f32⟩
  | 19 => ⟨S_, .f32⟩
  | 20 => ⟨S1x10000x2x64, .f32⟩
  | 21 => ⟨S1x10000x2x64, .f32⟩
  | 22 => ⟨S_, .f32⟩
  | 23 => ⟨S1x10000x2x64, .f32⟩
  | 24 => ⟨S1x10000x2x64, .f32⟩
  | 25 => ⟨S_, .f32⟩
  | 26 => ⟨S_, .f32⟩
  | 27 => ⟨S_, .f32⟩
  | 28 => ⟨S1x10000x2x64, .f32⟩
  | 29 => ⟨S1x10000x2x64, .f32⟩
  | 30 => ⟨S_, .f32⟩
  | 31 => ⟨S1x10000x2x64, .f32⟩
  | 32 => ⟨S1x10000x2x64, .f32⟩
  | 33 => ⟨S1x10000x2x64, .f32⟩
  | 34 => ⟨S_, .f32⟩
  | 35 => ⟨S1x10000x2x64, .f32⟩
  | 36 => ⟨S1x10000x2x64, .f32⟩
  | 37 => ⟨S_, .f32⟩
  | 38 => ⟨S1x10000x2x64, .f32⟩
  | 39 => ⟨S1x10000x2x64, .f32⟩
  | 40 => ⟨S1x10000x2x64, .f32⟩
  | 41 => ⟨S1x10000x2x64, .f32⟩
  | 42 => ⟨S_, .f32⟩
  | 43 => ⟨S1x10000x2x64, .f32⟩
  | 44 => ⟨S1x10000x2x64, .f32⟩
  | 45 => ⟨S1x10000x2x64, .f32⟩
  | 46 => ⟨S64, .i32⟩
  | 47 => ⟨S1x1x1x64, .i32⟩
  | 48 => ⟨S1x10000x2x1, .i32⟩
  | 49 => ⟨S1x10000x2x64, .i32⟩
  | 50 => ⟨S1x10000x2x64, .i32⟩
  | 51 => ⟨S1x10000x2x64, .i1⟩
  | 52 => ⟨S1x10000x2x64, .f32⟩
  | 53 => ⟨S1x10000x2x64, .f32⟩
  | 54 => ⟨S_, .f32⟩
  | 55 => ⟨S1x10000x2x64, .f32⟩
  | 56 => ⟨S1x10000x2x64, .f32⟩
  | 57 => ⟨S_, .f32⟩
  | 58 => ⟨S1x10000x2x64, .f32⟩
  | 59 => ⟨S1x10000x2x64, .f32⟩
  | 60 => ⟨S_, .f32⟩
  | 61 => ⟨S1x10000x2x64, .f32⟩
  | 62 => ⟨S1x10000x2x64, .f32⟩
  | 63 => ⟨S_, .f32⟩
  | 64 => ⟨S_, .f32⟩
  | 65 => ⟨S_, .f32⟩
  | 66 => ⟨S1x10000x2x64, .f32⟩
  | 67 => ⟨S1x10000x2x64, .f32⟩
  | 68 => ⟨S_, .f32⟩
  | 69 => ⟨S1x10000x2x64, .f32⟩
  | 70 => ⟨S1x10000x2x64, .f32⟩
  | 71 => ⟨S_, .f32⟩
  | 72 => ⟨S1x10000x2x64, .f32⟩
  | 73 => ⟨S_, .f32⟩
  | 74 => ⟨S1x10000x2x64, .f32⟩
  | 75 => ⟨S1x10000x2x64, .f32⟩
  | 76 => ⟨S1x10000x2x64, .f32⟩
  | 77 => ⟨S1x10000x2x64, .f32⟩
  | 78 => ⟨S_, .f32⟩
  | 79 => ⟨S1x10000x2x64, .f32⟩
  | 80 => ⟨S1x10000x2x64, .f32⟩
  | 81 => ⟨S1x10000x2x64, .f32⟩
  | 82 => ⟨S1x10000x2x64, .f32⟩
  | 83 => ⟨S_, .f32⟩
  | 84 => ⟨S1x10000x2x64, .f32⟩
  | 85 => ⟨S1x10000x2x64, .f32⟩
  | 86 => ⟨S1x10000x2x64, .f32⟩
  | 87 => ⟨S1x10000x2x64, .f32⟩
  | 88 => ⟨S_, .f32⟩
  | 89 => ⟨S1x10000x2x64, .f32⟩
  | 90 => ⟨S1x10000x2x64, .f32⟩
  | 91 => ⟨S1x10000x2x64, .f32⟩
  | 92 => ⟨S1x10000x2x64, .f32⟩
  | 93 => ⟨S_, .f32⟩
  | 94 => ⟨S1x10000x2x64, .f32⟩
  | 95 => ⟨S1x10000x2x64, .f32⟩
  | 96 => ⟨S1x10000x2x64, .f32⟩
  | 97 => ⟨S1x10000x2x64, .f32⟩
  | 98 => ⟨S_, .f32⟩
  | 99 => ⟨S1x10000x2x64, .f32⟩
  | 100 => ⟨S1x10000x2x64, .f32⟩
  | 101 => ⟨S1x10000x2x64, .f32⟩
  | 102 => ⟨S1x10000x2x64, .f32⟩
  | 103 => ⟨S_, .f32⟩
  | 104 => ⟨S1x10000x2x64, .f32⟩
  | 105 => ⟨S1x10000x2x64, .f32⟩
  | 106 => ⟨S1x10000x2x64, .f32⟩
  | 107 => ⟨S1x10000x2x64, .f32⟩
  | 108 => ⟨S_, .f32⟩
  | 109 => ⟨S1x10000x2x64, .f32⟩
  | 110 => ⟨S1x10000x2x64, .f32⟩
  | 111 => ⟨S1x10000x2x64, .f32⟩
  | 112 => ⟨S1x10000x2x64, .f32⟩
  | 113 => ⟨S_, .f32⟩
  | 114 => ⟨S1x10000x2x64, .f32⟩
  | 115 => ⟨S1x10000x2x64, .f32⟩
  | 116 => ⟨S1x10000x2x64, .f32⟩
  | 117 => ⟨S1x10000x2x64, .f32⟩
  | 118 => ⟨S_, .f32⟩
  | 119 => ⟨S1x10000x2x64, .f32⟩
  | 120 => ⟨S1x10000x2x64, .f32⟩
  | 121 => ⟨S1x10000x2x64, .f32⟩
  | 122 => ⟨S1x10000x2x64, .f32⟩
  | 123 => ⟨S1x10000x2x64x1, .f32⟩
  | 124 => ⟨S1x10000x2x64x1, .f32⟩
  | 125 => ⟨S1x10000x2x64x1, .f32⟩
  | 126 => ⟨S1x10000x2x64x1, .f32⟩
  | 127 => ⟨S1x10000x2x64x1, .f32⟩
  | _ => ⟨S1x10000x2x64, .i32⟩

abbrev hbmTy0_1 (i : Nat) : BufTy := match i % 128 with
  | 0 => ⟨S1x10000x2x64x1, .f32⟩
  | 1 => ⟨S1x10000x2x64x1, .f32⟩
  | 2 => ⟨S1x10000x2x64x1, .f32⟩
  | 3 => ⟨S1x10000x2x64x1, .f32⟩
  | 4 => ⟨S1x10000x2x64x1, .f32⟩
  | 5 => ⟨S1x10000x2x64x1, .f32⟩
  | 6 => ⟨S1x10000x2x64x1, .f32⟩
  | 7 => ⟨S1x10000x2x64x12, .f32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S10000x1, .i32⟩
  | 16 => ⟨S1, .i32⟩
  | 17 => ⟨S_, .i32⟩
  | 18 => ⟨S10000x1, .i32⟩
  | 19 => ⟨S10000x1, .i1⟩
  | 20 => ⟨S1x1, .i32⟩
  | 21 => ⟨S10000x1, .i32⟩
  | 22 => ⟨S10000x1, .i1⟩
  | 23 => ⟨S10000x1, .i1⟩
  | 24 => ⟨S_, .i1⟩
  | 25 => ⟨S10000, .i1⟩
  | 26 => ⟨S10000x2x8x12, .f32⟩
  | 27 => ⟨S10000x2x8x12, .i1⟩
  | 28 => ⟨S_, .f32⟩
  | 29 => ⟨S10000x2x8x12, .f32⟩
  | 30 => ⟨S10000x2x8x12, .f32⟩
  | 31 => ⟨S10000x2x8x1x64, .f32⟩
  | 32 => ⟨S1x10000x2x64x8, .f32⟩
  | 33 => ⟨S1x10000x2x64x1, .f32⟩
  | 34 => ⟨S1x10000x2x64x8, .f32⟩
  | 35 => ⟨S1x10000x2x64x8, .f32⟩
  | 36 => ⟨S_, .f32⟩
  | 37 => ⟨S1x10000x8, .f32⟩
  | 38 => ⟨S_, .f32⟩
  | 39 => ⟨S1x10000x8, .f32⟩
  | 40 => ⟨S1x10000x8, .f32⟩
  | 41 => ⟨S1x10000x8x1, .f32⟩
  | 42 => ⟨S1x10000x1x8, .f32⟩
  | 43 => ⟨S1x10000x8x8, .f32⟩
  | 44 => ⟨S1x10000x8x8, .f32⟩
  | 45 => ⟨S1x10000x8x8, .f32⟩
  | 46 => ⟨S1x10000x64, .f32⟩
  | 47 => ⟨S_, .i32⟩
  | 48 => ⟨S10000, .i32⟩
  | 49 => ⟨S10000, .i1⟩
  | 50 => ⟨S_, .i32⟩
  | 51 => ⟨S10000, .i32⟩
  | 52 => ⟨S10000, .i32⟩
  | 53 => ⟨S10000, .i32⟩
  | 54 => ⟨S10000x1, .i32⟩
  | 55 => ⟨S1, .i32⟩
  | 56 => ⟨S_, .i32⟩
  | 57 => ⟨S10000x1, .i32⟩
  | 58 => ⟨S10000x1, .i1⟩
  | 59 => ⟨S1x1, .i32⟩
  | 60 => ⟨S10000x1, .i32⟩
  | 61 => ⟨S10000x1, .i1⟩
  | 62 => ⟨S10000x1, .i1⟩
  | 63 => ⟨S_, .i1⟩
  | 64 => ⟨S10000, .i1⟩
  | 65 => ⟨S10000x64x64, .f32⟩
  | 66 => ⟨S10000x64x64, .i1⟩
  | 67 => ⟨S_, .f32⟩
  | 68 => ⟨S10000x64x64, .f32⟩
  | 69 => ⟨S10000x64x64, .f32⟩
  | 70 => ⟨S10000x64x1, .f32⟩
  | 71 => ⟨S1x10000x64, .f32⟩
  | 72 => ⟨S_, .i32⟩
  | 73 => ⟨S10000, .i32⟩
  | 74 => ⟨S10000, .i1⟩
  | 75 => ⟨S_, .i32⟩
  | 76 => ⟨S10000, .i32⟩
  | 77 => ⟨S10000, .i32⟩
  | 78 => ⟨S10000, .i32⟩
  | 79 => ⟨S10000x1, .i32⟩
  | 80 => ⟨S1, .i32⟩
  | 81 => ⟨S_, .i32⟩
  | 82 => ⟨S10000x1, .i32⟩
  | 83 => ⟨S10000x1, .i1⟩
  | 84 => ⟨S1x1, .i32⟩
  | 85 => ⟨S10000x1, .i32⟩
  | 86 => ⟨S10000x1, .i1⟩
  | 87 => ⟨S10000x1, .i1⟩
  | 88 => ⟨S_, .i1⟩
  | 89 => ⟨S10000, .i1⟩
  | 90 => ⟨S10000x64, .f32⟩
  | 91 => ⟨S10000x64, .i1⟩
  | 92 => ⟨S_, .f32⟩
  | 93 => ⟨S10000x64, .f32⟩
  | 94 => ⟨S10000x64, .f32⟩
  | 95 => ⟨S1x10000x64, .f32⟩
  | 96 => ⟨S1x10000x64, .f32⟩
  | 97 => ⟨S1x10000x64, .f32⟩
  | 98 => ⟨S_, .i32⟩
  | 99 => ⟨S10000, .i32⟩
  | 100 => ⟨S10000, .i1⟩
  | 101 => ⟨S_, .i32⟩
  | 102 => ⟨S10000, .i32⟩
  | 103 => ⟨S10000, .i32⟩
  | 104 => ⟨S10000, .i32⟩
  | 105 => ⟨S10000x1, .i32⟩
  | 106 => ⟨S1, .i32⟩
  | 107 => ⟨S_, .i32⟩
  | 108 => ⟨S10000x1, .i32⟩
  | 109 => ⟨S10000x1, .i1⟩
  | 110 => ⟨S1x1, .i32⟩
  | 111 => ⟨S10000x1, .i32⟩
  | 112 => ⟨S10000x1, .i1⟩
  | 113 => ⟨S10000x1, .i1⟩
  | 114 => ⟨S_, .i1⟩
  | 115 => ⟨S10000, .i1⟩
  | 116 => ⟨S10000x64x64, .f32⟩
  | 117 => ⟨S10000x64x64, .i1⟩
  | 118 => ⟨S_, .f32⟩
  | 119 => ⟨S10000x64x64, .f32⟩
  | 120 => ⟨S10000x64x64, .f32⟩
  | 121 => ⟨S10000x64x1, .f32⟩
  | 122 => ⟨S1x10000x64, .f32⟩
  | 123 => ⟨S_, .i32⟩
  | 124 => ⟨S10000, .i32⟩
  | 125 => ⟨S10000, .i1⟩
  | 126 => ⟨S_, .i32⟩
  | 127 => ⟨S10000, .i32⟩
  | _ => ⟨S1x10000x2x64, .i32⟩

abbrev hbmTy0_2 (i : Nat) : BufTy := match i % 128 with
  | 0 => ⟨S10000, .i32⟩
  | 1 => ⟨S10000, .i32⟩
  | 2 => ⟨S10000x1, .i32⟩
  | 3 => ⟨S1, .i32⟩
  | 4 => ⟨S_, .i32⟩
  | 5 => ⟨S10000x1, .i32⟩
  | 6 => ⟨S10000x1, .i1⟩
  | 7 => ⟨S1x1, .i32⟩
  | 8 => ⟨S10000x1, .i32⟩
  | 9 => ⟨S10000x1, .i1⟩
  | 10 => ⟨S10000x1, .i1⟩
  | 11 => ⟨S_, .i1⟩
  | 12 => ⟨S10000, .i1⟩
  | 13 => ⟨S10000x64, .f32⟩
  | 14 => ⟨S10000x64, .i1⟩
  | 15 => ⟨S_, .f32⟩
  | 16 => ⟨S10000x64, .f32⟩
  | 17 => ⟨S10000x64, .f32⟩
  | 18 => ⟨S1x10000x64, .f32⟩
  | 19 => ⟨S1x10000x64, .f32⟩
  | 20 => ⟨S1x10000x64, .f32⟩
  | 21 => ⟨S_, .i32⟩
  | 22 => ⟨S10000, .i32⟩
  | 23 => ⟨S10000, .i1⟩
  | 24 => ⟨S_, .i32⟩
  | 25 => ⟨S10000, .i32⟩
  | 26 => ⟨S10000, .i32⟩
  | 27 => ⟨S10000, .i32⟩
  | 28 => ⟨S10000x1, .i32⟩
  | 29 => ⟨S1, .i32⟩
  | 30 => ⟨S_, .i32⟩
  | 31 => ⟨S10000x1, .i32⟩
  | 32 => ⟨S10000x1, .i1⟩
  | 33 => ⟨S1x1, .i32⟩
  | 34 => ⟨S10000x1, .i32⟩
  | 35 => ⟨S10000x1, .i1⟩
  | 36 => ⟨S10000x1, .i1⟩
  | 37 => ⟨S_, .i1⟩
  | 38 => ⟨S10000, .i1⟩
  | 39 => ⟨S10000x64x1, .f32⟩
  | 40 => ⟨S10000x64x1, .i1⟩
  | 41 => ⟨S_, .f32⟩
  | 42 => ⟨S10000x64x1, .f32⟩
  | 43 => ⟨S10000x64x1, .f32⟩
  | 44 => ⟨S10000x1x1, .f32⟩
  | 45 => ⟨S1x10000x1, .f32⟩
  | 46 => ⟨S_, .i32⟩
  | 47 => ⟨S10000, .i32⟩
  | 48 => ⟨S10000, .i1⟩
  | 49 => ⟨S_, .i32⟩
  | 50 => ⟨S10000, .i32⟩
  | 51 => ⟨S10000, .i32⟩
  | 52 => ⟨S10000, .i32⟩
  | 53 => ⟨S10000x1, .i32⟩
  | 54 => ⟨S1, .i32⟩
  | 55 => ⟨S_, .i32⟩
  | 56 => ⟨S10000x1, .i32⟩
  | 57 => ⟨S10000x1, .i1⟩
  | 58 => ⟨S1x1, .i32⟩
  | 59 => ⟨S10000x1, .i32⟩
  | 60 => ⟨S10000x1, .i1⟩
  | 61 => ⟨S10000x1, .i1⟩
  | 62 => ⟨S_, .i1⟩
  | 63 => ⟨S10000, .i1⟩
  | 64 => ⟨S10000x1, .f32⟩
  | 65 => ⟨S10000x1, .i1⟩
  | 66 => ⟨S_, .f32⟩
  | 67 => ⟨S10000x1, .f32⟩
  | 68 => ⟨S10000x1, .f32⟩
  | 69 => ⟨S1x10000x1, .f32⟩
  | 70 => ⟨S1x10000x1, .f32⟩
  | 71 => ⟨S_, .f32⟩
  | 72 => ⟨S1x1, .f32⟩
  | 73 => ⟨S1x10000, .f32⟩
  | _ => ⟨S1x10000x2x64, .i32⟩

abbrev hbmTy (i : Nat) : BufTy := match i / 128 with
  | 0 => hbmTy0_0 i
  | 1 => hbmTy0_1 i
  | 2 => hbmTy0_2 i
  | _ => ⟨S1x10000x2x64, .i32⟩

abbrev bufTy : (tb : Table) → Fin (tcTables nBuf tb) → BufTy
  | .hbm, ⟨i, _⟩ => hbmTy i
  | _, _ => ⟨S1x10000x2x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v9 : Ref sig .tc := ⟨.hbm, 32, rfl⟩
abbrev main_v10 : Ref sig .tc := ⟨.hbm, 33, rfl⟩
abbrev main_cst_4 : Ref sig .tc := ⟨.hbm, 34, rfl⟩
abbrev main_v11 : Ref sig .tc := ⟨.hbm, 35, rfl⟩
abbrev main_v12 : Ref sig .tc := ⟨.hbm, 36, rfl⟩
abbrev main_cst_5 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_cst_10 : Ref sig .tc := ⟨.hbm, 63, rfl⟩
abbrev main_cst_11 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v34 : Ref sig .tc := ⟨.hbm, 70, rfl⟩
abbrev main_cst_12 : Ref sig .tc := ⟨.hbm, 71, rfl⟩
abbrev main_v35 : Ref sig .tc := ⟨.hbm, 72, rfl⟩
abbrev main_cst_13 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_14 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_15 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_16 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_17 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_18 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_19 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_20 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_21 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_22 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_call2_c : Ref sig .tc := ⟨.hbm, 136, rfl⟩
abbrev main_call2_v0 : Ref sig .tc := ⟨.hbm, 137, rfl⟩
abbrev main_call2_v1 : Ref sig .tc := ⟨.hbm, 138, rfl⟩
abbrev main_call2_c_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_c_1 : Ref sig .tc := ⟨.hbm, 144, rfl⟩
abbrev main_call2_c_2 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_c_3 : Ref sig .tc := ⟨.hbm, 152, rfl⟩
abbrev main_call2_v12 : Ref sig .tc := ⟨.hbm, 153, rfl⟩
abbrev main_call2_v13 : Ref sig .tc := ⟨.hbm, 154, rfl⟩
abbrev main_call2_v14 : Ref sig .tc := ⟨.hbm, 155, rfl⟩
abbrev main_call2_cst : Ref sig .tc := ⟨.hbm, 156, rfl⟩
abbrev main_call2_v15 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_cst_23 : Ref sig .tc := ⟨.hbm, 164, rfl⟩
abbrev main_v95 : Ref sig .tc := ⟨.hbm, 165, rfl⟩
abbrev main_cst_24 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_call3_c : Ref sig .tc := ⟨.hbm, 175, rfl⟩
abbrev main_call3_v0 : Ref sig .tc := ⟨.hbm, 176, rfl⟩
abbrev main_call3_v1 : Ref sig .tc := ⟨.hbm, 177, rfl⟩
abbrev main_call3_c_0 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_c_1 : Ref sig .tc := ⟨.hbm, 183, rfl⟩
abbrev main_call3_c_2 : Ref sig .tc := ⟨.hbm, 184, rfl⟩
abbrev main_call3_v6 : Ref sig .tc := ⟨.hbm, 185, rfl⟩
abbrev main_call3_v7 : Ref sig .tc := ⟨.hbm, 186, rfl⟩
abbrev main_call3_v8 : Ref sig .tc := ⟨.hbm, 187, rfl⟩
abbrev main_call3_v9 : Ref sig .tc := ⟨.hbm, 188, rfl⟩
abbrev main_call3_v10 : Ref sig .tc := ⟨.hbm, 189, rfl⟩
abbrev main_call3_v11 : Ref sig .tc := ⟨.hbm, 190, rfl⟩
abbrev main_call3_c_3 : Ref sig .tc := ⟨.hbm, 191, rfl⟩
abbrev main_call3_v12 : Ref sig .tc := ⟨.hbm, 192, rfl⟩
abbrev main_call3_v13 : Ref sig .tc := ⟨.hbm, 193, rfl⟩
abbrev main_call3_v14 : Ref sig .tc := ⟨.hbm, 194, rfl⟩
abbrev main_call3_cst : Ref sig .tc := ⟨.hbm, 195, rfl⟩
abbrev main_call3_v15 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_call4_c : Ref sig .tc := ⟨.hbm, 200, rfl⟩
abbrev main_call4_v0 : Ref sig .tc := ⟨.hbm, 201, rfl⟩
abbrev main_call4_v1 : Ref sig .tc := ⟨.hbm, 202, rfl⟩
abbrev main_call4_c_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_c_1 : Ref sig .tc := ⟨.hbm, 208, rfl⟩
abbrev main_call4_c_2 : Ref sig .tc := ⟨.hbm, 209, rfl⟩
abbrev main_call4_v6 : Ref sig .tc := ⟨.hbm, 210, rfl⟩
abbrev main_call4_v7 : Ref sig .tc := ⟨.hbm, 211, rfl⟩
abbrev main_call4_v8 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_c_3 : Ref sig .tc := ⟨.hbm, 216, rfl⟩
abbrev main_call4_v12 : Ref sig .tc := ⟨.hbm, 217, rfl⟩
abbrev main_call4_v13 : Ref sig .tc := ⟨.hbm, 218, rfl⟩
abbrev main_call4_v14 : Ref sig .tc := ⟨.hbm, 219, rfl⟩
abbrev main_call4_cst : Ref sig .tc := ⟨.hbm, 220, rfl⟩
abbrev main_call4_v15 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_call5_c : Ref sig .tc := ⟨.hbm, 226, rfl⟩
abbrev main_call5_v0 : Ref sig .tc := ⟨.hbm, 227, rfl⟩
abbrev main_call5_v1 : Ref sig .tc := ⟨.hbm, 228, rfl⟩
abbrev main_call5_c_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_c_1 : Ref sig .tc := ⟨.hbm, 234, rfl⟩
abbrev main_call5_c_2 : Ref sig .tc := ⟨.hbm, 235, rfl⟩
abbrev main_call5_v6 : Ref sig .tc := ⟨.hbm, 236, rfl⟩
abbrev main_call5_v7 : Ref sig .tc := ⟨.hbm, 237, rfl⟩
abbrev main_call5_v8 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_c_3 : Ref sig .tc := ⟨.hbm, 242, rfl⟩
abbrev main_call5_v12 : Ref sig .tc := ⟨.hbm, 243, rfl⟩
abbrev main_call5_v13 : Ref sig .tc := ⟨.hbm, 244, rfl⟩
abbrev main_call5_v14 : Ref sig .tc := ⟨.hbm, 245, rfl⟩
abbrev main_call5_cst : Ref sig .tc := ⟨.hbm, 246, rfl⟩
abbrev main_call5_v15 : Ref sig .tc := ⟨.hbm, 247, rfl⟩
abbrev main_v111 : Ref sig .tc := ⟨.hbm, 248, rfl⟩
abbrev main_v112 : Ref sig .tc := ⟨.hbm, 249, rfl⟩
abbrev main_v113 : Ref sig .tc := ⟨.hbm, 250, rfl⟩
abbrev main_call6_c : Ref sig .tc := ⟨.hbm, 251, rfl⟩
abbrev main_call6_v0 : Ref sig .tc := ⟨.hbm, 252, rfl⟩
abbrev main_call6_v1 : Ref sig .tc := ⟨.hbm, 253, rfl⟩
abbrev main_call6_c_0 : Ref sig .tc := ⟨.hbm, 254, rfl⟩
abbrev main_call6_v2 : Ref sig .tc := ⟨.hbm, 255, rfl⟩
abbrev main_call6_v3 : Ref sig .tc := ⟨.hbm, 256, rfl⟩
abbrev main_call6_v4 : Ref sig .tc := ⟨.hbm, 257, rfl⟩
abbrev main_call6_v5 : Ref sig .tc := ⟨.hbm, 258, rfl⟩
abbrev main_call6_c_1 : Ref sig .tc := ⟨.hbm, 259, rfl⟩
abbrev main_call6_c_2 : Ref sig .tc := ⟨.hbm, 260, rfl⟩
abbrev main_call6_v6 : Ref sig .tc := ⟨.hbm, 261, rfl⟩
abbrev main_call6_v7 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_v11 : Ref sig .tc := ⟨.hbm, 266, rfl⟩
abbrev main_call6_c_3 : Ref sig .tc := ⟨.hbm, 267, rfl⟩
abbrev main_call6_v12 : Ref sig .tc := ⟨.hbm, 268, rfl⟩
abbrev main_call6_v13 : Ref sig .tc := ⟨.hbm, 269, rfl⟩
abbrev main_call6_v14 : Ref sig .tc := ⟨.hbm, 270, rfl⟩
abbrev main_call6_cst : Ref sig .tc := ⟨.hbm, 271, rfl⟩
abbrev main_call6_v15 : Ref sig .tc := ⟨.hbm, 272, rfl⟩
abbrev main_v114 : Ref sig .tc := ⟨.hbm, 273, rfl⟩
abbrev main_v115 : Ref sig .tc := ⟨.hbm, 274, rfl⟩
abbrev main_v116 : Ref sig .tc := ⟨.hbm, 275, rfl⟩
abbrev main_v117 : Ref sig .tc := ⟨.hbm, 276, rfl⟩
abbrev main_call7_c : Ref sig .tc := ⟨.hbm, 277, rfl⟩
abbrev main_call7_v0 : Ref sig .tc := ⟨.hbm, 278, rfl⟩
abbrev main_call7_v1 : Ref sig .tc := ⟨.hbm, 279, rfl⟩
abbrev main_call7_c_0 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_v5 : Ref sig .tc := ⟨.hbm, 284, rfl⟩
abbrev main_call7_c_1 : Ref sig .tc := ⟨.hbm, 285, rfl⟩
abbrev main_call7_c_2 : Ref sig .tc := ⟨.hbm, 286, rfl⟩
abbrev main_call7_v6 : Ref sig .tc := ⟨.hbm, 287, rfl⟩
abbrev main_call7_v7 : Ref sig .tc := ⟨.hbm, 288, rfl⟩
abbrev main_call7_v8 : Ref sig .tc := ⟨.hbm, 289, rfl⟩
abbrev main_call7_v9 : Ref sig .tc := ⟨.hbm, 290, rfl⟩
abbrev main_call7_v10 : Ref sig .tc := ⟨.hbm, 291, rfl⟩
abbrev main_call7_v11 : Ref sig .tc := ⟨.hbm, 292, rfl⟩
abbrev main_call7_c_3 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_call7_cst : Ref sig .tc := ⟨.hbm, 297, rfl⟩
abbrev main_call7_v15 : Ref sig .tc := ⟨.hbm, 298, rfl⟩
abbrev main_v118 : Ref sig .tc := ⟨.hbm, 299, rfl⟩
abbrev main_v119 : Ref sig .tc := ⟨.hbm, 300, rfl⟩
abbrev main_v120 : Ref sig .tc := ⟨.hbm, 301, rfl⟩
abbrev main_call8_c : Ref sig .tc := ⟨.hbm, 302, rfl⟩
abbrev main_call8_v0 : Ref sig .tc := ⟨.hbm, 303, rfl⟩
abbrev main_call8_v1 : Ref sig .tc := ⟨.hbm, 304, rfl⟩
abbrev main_call8_c_0 : Ref sig .tc := ⟨.hbm, 305, rfl⟩
abbrev main_call8_v2 : Ref sig .tc := ⟨.hbm, 306, rfl⟩
abbrev main_call8_v3 : Ref sig .tc := ⟨.hbm, 307, rfl⟩
abbrev main_call8_v4 : Ref sig .tc := ⟨.hbm, 308, rfl⟩
abbrev main_call8_v5 : Ref sig .tc := ⟨.hbm, 309, rfl⟩
abbrev main_call8_c_1 : Ref sig .tc := ⟨.hbm, 310, rfl⟩
abbrev main_call8_c_2 : Ref sig .tc := ⟨.hbm, 311, rfl⟩
abbrev main_call8_v6 : Ref sig .tc := ⟨.hbm, 312, rfl⟩
abbrev main_call8_v7 : Ref sig .tc := ⟨.hbm, 313, rfl⟩
abbrev main_call8_v8 : Ref sig .tc := ⟨.hbm, 314, rfl⟩
abbrev main_call8_v9 : Ref sig .tc := ⟨.hbm, 315, rfl⟩
abbrev main_call8_v10 : Ref sig .tc := ⟨.hbm, 316, rfl⟩
abbrev main_call8_v11 : Ref sig .tc := ⟨.hbm, 317, rfl⟩
abbrev main_call8_c_3 : Ref sig .tc := ⟨.hbm, 318, rfl⟩
abbrev main_call8_v12 : Ref sig .tc := ⟨.hbm, 319, rfl⟩
abbrev main_call8_v13 : Ref sig .tc := ⟨.hbm, 320, rfl⟩
abbrev main_call8_v14 : Ref sig .tc := ⟨.hbm, 321, rfl⟩
abbrev main_call8_cst : Ref sig .tc := ⟨.hbm, 322, rfl⟩
abbrev main_call8_v15 : Ref sig .tc := ⟨.hbm, 323, rfl⟩
abbrev main_v121 : Ref sig .tc := ⟨.hbm, 324, rfl⟩
abbrev main_v122 : Ref sig .tc := ⟨.hbm, 325, rfl⟩
abbrev main_v123 : Ref sig .tc := ⟨.hbm, 326, rfl⟩
abbrev main_cst_25 : Ref sig .tc := ⟨.hbm, 327, rfl⟩
abbrev main_v124 : Ref sig .tc := ⟨.hbm, 328, rfl⟩
abbrev main_v125 : Ref sig .tc := ⟨.hbm, 329, rfl⟩

abbrev nD : Nat := 1
abbrev τ : Topo := Topo.v7x

variable {F : FTy → Type} [FloatOps F]
-- ==== Proof.Body.lean ====
/-
  One call of the idealized kernel's body: what it leaves in the two output buffers as a function of what it finds in
  the staging buffers.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One call of the body -/

/-- A column of the neighbour counts: the column of the neighbours of type 0, -/
abbrev col0 (x1 : Vec F S400x2 .i32) : Vec F S400x1 .i32 := View.ld x1 (Rect.unit (s := S400x2) ![0, 0] S400x1.size inb_S400x2_S400x1_0_0)
/-- and the column of the neighbours of type 1. -/
abbrev col1 (x1 : Vec F S400x2 .i32) : Vec F S400x1 .i32 := View.ld x1 (Rect.unit (s := S400x2) ![0, 1] S400x1.size inb_S400x2_S400x1_0_1)
/-- The output bias of the network of type 0, -/
abbrev bias0 (x9 : Vec F S1x1x2 .f32) : Vec F S1x1x1 .f32 := View.ld x9 (Rect.unit (s := S1x1x2) ![0, 0, 0] S1x1x1.size inb_S1x1x2_S1x1x1_0_0_0)
/-- and that of the network of type 1. -/
abbrev bias1 (x9 : Vec F S1x1x2 .f32) : Vec F S1x1x1 .f32 := View.ld x9 (Rect.unit (s := S1x1x2) ![0, 0, 1] S1x1x1.size inb_S1x1x2_S1x1x1_0_0_1)

/-- The network's output before its bias, for the block's 400 atoms: the body's third matrix product. -/
def netOut (x0 : Vec F S400x128 .f32) (x1 : Vec F S400x2 .i32) (x2 : Vec F S400x1 .i32) (x3 : Vec F S1536x16 .f32) (x4 : Vec F S1x64x128 .f32) (x5 : Vec F S1x1x128 .f32) (x6 : Vec F S1x128x128 .f32) (x7 : Vec F S1x1x128 .f32) (x8 : Vec F S1x128x1 .f32) (x10 : Vec F S1x8x64 .f32) : FVec F S400x1 .f32 :=
  k0_pay8 (k0_pay5 x2) (k0_pay6 (k0_pay3 x0) (k0_pay4 x0 (col0 x1) (col1 x1)) x3 x2)
    (k0_pay7 (k0_pay3 x0) (k0_pay4 x0 (col0 x1) (col1 x1)) x3 x2) x10 x4 x5 x6 x7 x8

/-- The block of atom energies the body leaves in the first output's buffer. -/
def eiVal (x0 : Vec F S400x128 .f32) (x1 : Vec F S400x2 .i32) (x2 : Vec F S400x1 .i32) (x3 : Vec F S1536x16 .f32) (x4 : Vec F S1x64x128 .f32) (x5 : Vec F S1x1x128 .f32) (x6 : Vec F S1x128x128 .f32) (x7 : Vec F S1x1x128 .f32) (x8 : Vec F S1x128x1 .f32) (x9 : Vec F S1x1x2 .f32) (x10 : Vec F S1x8x64 .f32) : FVec F S400x1 .f32 :=
  k0_pay1 (k0_pay5 x2) (netOut x0 x1 x2 x3 x4 x5 x6 x7 x8 x10) (bias0 x9) (bias1 x9)

/-- The one cell the body leaves in the second output's buffer, having found `y` in it, at the point whose coordinate is `a`. -/
def etVal (a : BitVec 32) (x0 : Vec F S400x128 .f32) (x1 : Vec F S400x2 .i32) (x2 : Vec F S400x1 .i32) (x3 : Vec F S1536x16 .f32) (x4 : Vec F S1x64x128 .f32) (x5 : Vec F S1x1x128 .f32) (x6 : Vec F S1x128x128 .f32) (x7 : Vec F S1x1x128 .f32) (x8 : Vec F S1x128x1 .f32) (x9 : Vec F S1x1x2 .f32) (x10 : Vec F S1x8x64 .f32) (y : Vec F S1x1 .f32) : FVec F S1x1 .f32 :=
  k0_pay2 a (k0_pay5 x2) (netOut x0 x1 x2 x3 x4 x5 x6 x7 x8 x10) (bias0 x9) (bias1 x9) y

/-- The zero offset on two axes, -/
theorem hz2 : (![0, 0] : Fin 2 → Nat) = fun _ => 0 := funext fun a => by fin_cases a <;> rfl
/-- and on three. -/
theorem hz3 : (![0, 0, 0] : Fin 3 → Nat) = fun _ => 0 := funext fun a => by fin_cases a <;> rfl

/-- ONE store through a whole-shape rectangle, read back, is its payload. -/
theorem read_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

set_option maxHeartbeats 1600000 in
/-- The body's triple: from whole staging buffers holding `x0 … x10` and, in the outputs' two, anything and `y`, it ends
    with the inputs' as they were and the outputs' at `eiVal` and `etVal`. -/
theorem body_run (c : Dev nD) (i : grid0.Coords) (arg1 : Memref sig .tc .vmem S400x128 .f32) (harg1 : arg1.IsWhole) (arg2 : Memref sig .tc .vmem S400x2 .i32) (harg2 : arg2.IsWhole) (arg3 : Memref sig .tc .vmem S400x1 .i32) (harg3 : arg3.IsWhole) (arg4 : Memref sig .tc .vmem S1536x16 .f32) (harg4 : arg4.IsWhole) (arg5 : Memref sig .tc .vmem S1x64x128 .f32) (harg5 : arg5.IsWhole) (arg6 : Memref sig .tc .vmem S1x1x128 .f32) (harg6 : arg6.IsWhole) (arg7 : Memref sig .tc .vmem S1x128x128 .f32) (harg7 : arg7.IsWhole) (arg8 : Memref sig .tc .vmem S1x1x128 .f32) (harg8 : arg8.IsWhole) (arg9 : Memref sig .tc .vmem S1x128x1 .f32) (harg9 : arg9.IsWhole) (arg10 : Memref sig .tc .vmem S1x1x2 .f32) (harg10 : arg10.IsWhole) (arg11 : Memref sig .tc .vmem S1x8x64 .f32) (harg11 : arg11.IsWhole) (arg12 : Memref sig .tc .vmem S400x1 .f32) (harg12 : arg12.IsWhole) (arg13 : Memref sig .tc .vmem S1x1 .f32) (harg13 : arg13.IsWhole)
    (x0 : Vec F S400x128 .f32) (x1 : Vec F S400x2 .i32) (x2 : Vec F S400x1 .i32) (x3 : Vec F S1536x16 .f32) (x4 : Vec F S1x64x128 .f32) (x5 : Vec F S1x1x128 .f32) (x6 : Vec F S1x128x128 .f32) (x7 : Vec F S1x1x128 .f32) (x8 : Vec F S1x128x1 .f32) (x9 : Vec F S1x1x2 .f32) (x10 : Vec F S1x8x64 .f32) (y : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (eiVal x0 x1 x2 x3 x4 x5 x6 x7 x8 x9 x10) ∗ owns (c : Thread nD τ) arg13 fullShare (etVal (BitVec.ofNat 32 (i 0).val) x0 x1 x2 x3 x4 x5 x6 x7 x8 x9 x10 y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%f12, %hf12, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg13.eq_unread hf12
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    rw [read_store (S := S400x1) _ _ hz2]
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x128) hz2, View.ld_unit_zero (S := S400x1) hz2, View.ld_unit_zero (S := S1x1) hz2, View.ld_unit_zero (S := S1536x16) hz2, View.ld_unit_zero (S := S1x64x128) hz3, View.ld_unit_zero (S := S1x1x128) hz3, View.ld_unit_zero (S := S1x128x128) hz3, View.ld_unit_zero (S := S1x128x1) hz3, View.ld_unit_zero (S := S1x8x64) hz3]
    rfl
  iexists _; isplitr; swap; · iexact H12
  ipureintro
  rw [read_store (S := S1x1) _ _ hz2]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x128) hz2, View.ld_unit_zero (S := S400x1) hz2, View.ld_unit_zero (S := S1x1) hz2, View.ld_unit_zero (S := S1536x16) hz2, View.ld_unit_zero (S := S1x64x128) hz3, View.ld_unit_zero (S := S1x1x128) hz3, View.ld_unit_zero (S := S1x128x128) hz3, View.ld_unit_zero (S := S1x128x1) hz3, View.ld_unit_zero (S := S1x8x64) hz3]
  rfl

end Cert.KernelIdeal.Run

end
-- ==== Proof.Run.lean ====
/-
  The run of the idealized kernel, its outputs named: what one call of the body leaves in the two output buffers as a
  function of what it finds in the staging buffers, the proof data of the pipeline, and the run of the whole program.

  The first output (the atoms' energies) is written block by block, one block at each of the 25 grid points.  The second
  (the total energy) is one cell that every point adds its block's energies to; the first point starts from zero
  whatever the cell held.
-/
module

public import proofs.«01_k».proof.Proof.Body
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The energies of the block of point `t`. -/
def eiAt (c : Dev nD) (t : Fin cfg0.N) : FVec F S400x1 .f32 := eiVal (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What point `t` leaves in the total's cell, having found `y` there. -/
def etStep (c : Dev nD) (t : Fin cfg0.N) (y : Vec F S1x1 .f32) : FVec F S1x1 .f32 :=
  etVal (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) y

/-- At a point whose coordinate word is zero the cell's former contents do not count. -/
theorem etVal_zero (a : BitVec 32) (ha : a = 0#32) (x0 : Vec F S400x128 .f32) (x1 : Vec F S400x2 .i32) (x2 : Vec F S400x1 .i32) (x3 : Vec F S1536x16 .f32) (x4 : Vec F S1x64x128 .f32) (x5 : Vec F S1x1x128 .f32) (x6 : Vec F S1x128x128 .f32) (x7 : Vec F S1x1x128 .f32) (x8 : Vec F S1x128x1 .f32) (x9 : Vec F S1x1x2 .f32) (x10 : Vec F S1x8x64 .f32) (y y' : Vec F S1x1 .f32) :
    etVal a x0 x1 x2 x3 x4 x5 x6 x7 x8 x9 x10 y = etVal a x0 x1 x2 x3 x4 x5 x6 x7 x8 x9 x10 y' := by
  subst ha
  rfl

/-- The total after point `n`: the running sum, started at zero by the first point. -/
def etAt (c : Dev nD) : (n : ℕ) → n < cfg0.N → Vec F S1x1 .f32
  | 0, h => etStep m c ⟨0, h⟩ (broadcast S1x1 (Scalar.ofBits .f32 0x00000000#32))
  | n + 1, h => etStep m c ⟨n + 1, h⟩ (etAt c n (Nat.lt_of_succ_lt h))

/-- The proof data on core `c`: the arrays as the region finds them; after the body at point `t` each input's buffer at
    its block, the first output's at the block's energies, the second's at the running total. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => eiAt m c t
    | ⟨12, _⟩ => etAt m c t.val t.isLt
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-! What the body leaves, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = eiAt m c t := by dsimp only [dats]
theorem after_12 (c : Dev nD) (t : Fin cfg0.N) : (dats m 0 c).after 12 t = etAt m c t.val t.isLt := by dsimp only [dats]

/-! Each input's buffer holds its block at every point. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The grid coordinate of a point is its number. -/
theorem coord_eq : ∀ t : Fin cfg0.N, ((grid0.coords t) 0).val = t.val := by decide +kernel

/-- The total's buffer is never filled from its array. -/
theorem fetch_12 : ∀ t : Fin cfg0.N, (cfg0.win 12).fetch t = false := by decide +kernel

/-- After the first point the total's buffer holds what the point before left. -/
theorem before_12_succ (c : Dev nD) (n : ℕ) (h : n + 1 < cfg0.N) (d) :
    (dats m 0 c).before 12 ⟨n + 1, h⟩ d = etAt m c n (Nat.lt_of_succ_lt h) := by
  have hN : cfg0.N = 25 := N_0
  rw [Dat.before_of_pos _ 12 ⟨n + 1, h⟩ (Nat.succ_ne_zero n) (fetch_12 _)]
  have hf : ¬(cfg0.win 12).flush ⟨n, Nat.lt_of_succ_lt h⟩ = true := by
    rw [flush0_12]; dsimp only; omega
  have hs : (⟨(⟨n + 1, h⟩ : Fin cfg0.N).val - 1, Nat.lt_of_le_of_lt (Nat.sub_le _ _) (⟨n + 1, h⟩ : Fin cfg0.N).isLt⟩ : Fin cfg0.N) = ⟨n, Nat.lt_of_succ_lt h⟩ := rfl
  rw [hs, if_neg hf]
  exact after_12 m c ⟨n, Nat.lt_of_succ_lt h⟩

/-- One step from whatever the total's buffer holds at point `t` is the running total there. -/
theorem step_before (c : Dev nD) (t : Fin cfg0.N) (d) :
    etStep m c t ((dats m 0 c).before 12 t d) = (dats m 0 c).after 12 t := by
  rw [after_12]
  obtain ⟨n, h⟩ := t
  cases n with
  | zero =>
    unfold etAt etStep
    exact etVal_zero _ (by rw [coord_eq]) _ _ _ _ _ _ _ _ _ _ _ _ _
  | succ n => rw [before_12_succ]; rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [← step_before m c t d12]
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation to the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every execution terminates; each array ends at its contents after the last write-back, every other buffer
    at what the lines after the region leave in it, every counter at zero. -/
theorem run_main_quiescent : θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Run

end
-- ==== Proof.KernelFrame.lean ====
/-
  The frame of the kernel as printed. Its text and the idealized kernel's are one program, printed twice, and the run of
  that program is proved for floats of any kind: read at bit patterns it is the run of the kernel as printed.
-/
module

public import proofs.«01_k».proof.Defs
public import proofs.«01_k».proof.Proof.Run
public import proofs.«01_k».proof.Proof.Gen.Kernel
public import Idealize.ShloMosaic.Lib.Claim

@[expose] public section

set_option maxRecDepth 100000

noncomputable section

namespace Cert.KernelFrame

open Idealize.ShloMosaic Idealize.ShloMosaic.TcCoe Idealize.SL.Sem

set_option maxHeartbeats 4000000

/-! ## The two texts are one program -/

/-- The first of the body's three parts, as printed and as idealized, -/
theorem part1_eq : Cert.Kernel.k0_part1 (F := Bits) = Cert.KernelIdeal.k0_part1 (F := Bits) := rfl
/-- the second, -/
theorem part2_eq : Cert.Kernel.k0_part2 (F := Bits) = Cert.KernelIdeal.k0_part2 (F := Bits) := rfl
/-- and the third. -/
theorem part3_eq : Cert.Kernel.k0_part3 (F := Bits) = Cert.KernelIdeal.k0_part3 (F := Bits) := rfl

/-- So the two bodies are one, -/
theorem body_eq : Cert.Kernel.cc0__body (F := Bits) = Cert.KernelIdeal.cc0__body (F := Bits) := by
  unfold Cert.Kernel.cc0__body Cert.KernelIdeal.cc0__body
  rw [part1_eq, part2_eq, part3_eq]
  rfl

/-- the tables that hold the bodies are one, -/
theorem bodies_eq : Cert.Kernel.defs₀ (F := Bits) = Cert.KernelIdeal.defs₀ (F := Bits) := by
  unfold Cert.Kernel.defs₀ Cert.KernelIdeal.defs₀
  rw [body_eq]
  refine congrArg Defs.onTc (funext fun l => funext fun a => ?_)
  match l, a with
  | ⟨0, _⟩, (t, s) => rfl
  | ⟨n + 1, h⟩, _ => exact absurd h (by omega)

/-- the tables with the pipeline's own labels are one, -/
theorem defs_eq : Cert.Kernel.defs (F := Bits) = Cert.KernelIdeal.defs (F := Bits) := by
  unfold Cert.Kernel.defs Cert.KernelIdeal.defs
  rw [bodies_eq]
  rfl

/-- and so are the host programs. -/
theorem main_eq : Cert.Kernel.main (F := Bits) = Cert.KernelIdeal.main (F := Bits) := rfl

/-! ## The frame -/

/-- What every run of the one program ends in, every run of the other ends in. -/
theorem run_of_ideal (m : (ℓ : Loc Cert.KernelIdeal.nD Cert.KernelIdeal.τ Cert.KernelIdeal.sig) → Buf (Elt Bits) ℓ)
    (g : Dev Cert.KernelIdeal.nD → PrngReg)
    (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits)))
      ⟨m, fun _ => 0, g⟩ Q) :
    θ_run (Cert.Kernel.defs (F := Bits)) (onTc (τ := Cert.Kernel.τ) (Cert.Kernel.main (F := Bits))) ⟨m, fun _ => 0, g⟩ Q := by
  rw [defs_eq, main_eq]
  exact h

/-- Every run of the kernel as printed terminates with its arguments as they were and every counter at zero. -/
theorem frame : Cert.quiescent_Kernel := by
  intro m g _
  have h := θ_run_with_sems
    (Cert.KernelIdeal.Gen.frame_of (F := Bits) m g (Cert.KernelIdeal.Run.dats m) (Cert.KernelIdeal.Run.A_eq m))
    (Cert.KernelIdeal.Run.run_main_quiescent (F := Bits) m g)
  exact run_of_ideal m g _ h

end Cert.KernelFrame

end
-- ==== Proof.Types.lean ====
/-
  The precondition read off: every atom's type word is 0 or 1.
-/
module

public import proofs.«01_k».proof.Pre_types_in_range
public import Idealize.ShloMosaic.Lib.Pointwise
public import Idealize.ShloMosaic.Lib.ReduceAll
public import Idealize.ShloMosaic.Lib.Decide

@[expose] public section

set_option maxRecDepth 16384

noncomputable section

namespace Cert.Pre_types_in_range

open Idealize.ShloMosaic

/-- The side conditions of the precondition's operations hold. -/
theorem facts : Facts where
  bcast_S_S10000 := by decide
  reducesTo_S10000_S_d0 := by decide
  h_S_ := by decide

/-- A word at least zero and below two, as a signed number, is the word of 0 or of 1. -/
theorem word_of_range (w : BitVec 32) (h : IntOp.andi (IntOp.cmpi .sge w 0#32) (IntOp.cmpi .slt w 2#32) = 1#1) :
    ∃ t : Fin 2, w = BitVec.ofNat 32 t.val := by
  obtain ⟨h0, h1⟩ := IntOp.andi_eq_one.1 h
  have b : ∀ x : Bool, BitVec.ofBool x = 1#1 → x = true := by decide
  have h0' : (0#32).sle w = true := b _ h0
  have h1' : w.slt 2#32 = true := b _ h1
  rw [BitVec.sle_eq_decide, decide_eq_true_eq] at h0'
  rw [BitVec.slt_eq_decide, decide_eq_true_eq] at h1'
  have e0 : (0#32).toInt = 0 := by decide
  have e2 : (2#32).toInt = 2 := by decide
  rw [e0] at h0'
  rw [e2] at h1'
  have : w.toInt = 0 ∨ w.toInt = 1 := by omega
  rcases this with e | e
  · exact ⟨0, BitVec.toInt_inj.1 (e.trans (by decide))⟩
  · exact ⟨1, BitVec.toInt_inj.1 (e.trans (by decide))⟩

/-- Where the precondition holds, each atom has a type: 0 or 1. -/
theorem types_exist [Facts] (x0 : IVec S1x10000x2x64 32) (x1 : IVec S10000 32) (x2 : IVec S2 32) (x3 : FVec Ideal S1x10000x128x4 .f32)
    (x4 : IVec S1x10000x2 32) (x5 : IVec S_ 32) (x6 : FVec Ideal S2x2x8x12 .f32) (x7 : FVec Ideal S2x64x64 .f32)
    (x8 : FVec Ideal S2x64 .f32) (x9 : FVec Ideal S2x64x64 .f32) (x10 : FVec Ideal S2x64 .f32) (x11 : FVec Ideal S2x64x1 .f32)
    (x12 : FVec Ideal S2x1 .f32) (h : fn (F := Ideal) x0 x1 x2 x3 x4 x5 x6 x7 x8 x9 x10 x11 x12 = fun _ => 1#1) :
    ∃ T : Fin 10000 → Fin 2, ∀ n, x1 (ix1 n) = BitVec.ofNat 32 (T n).val := by
  haveI : Subsingleton S_.Idx := ⟨fun a b => funext fun i => i.elim0⟩
  have hn : ∀ n : Fin 10000, ∃ t : Fin 2, x1 (ix1 n) = BitVec.ofNat 32 t.val := fun n =>
    word_of_range _ (Host.reduce_andi_all _ _ _ _ _ (congrFun h ix0) (ix1 n))
  exact ⟨fun n => (hn n).choose, fun n => (hn n).choose_spec⟩

end Cert.Pre_types_in_range

end
-- ==== Proof.Model.lean ====
/-
  The mathematics of the two programs, on the extended reals and apart from either of them: the radial functions of one
  neighbour, the eight features of one atom, the three-layer network of one atom's type, and the ways in which the kernel
  arranges these sums, each shown to be the same number.

  Nothing here asks the data to be finite. What is used of the extended reals is that multiplication is associative and
  commutative, and that it distributes over sums when one multiplies by a finite number that is not negative: the weight
  of a neighbour (a cutoff between 0 and 1) and 1/64 are such numbers.
-/
module

public import Idealize.ShloMosaic.PureOps.Ideal
public import Mathlib.Data.EReal.Operations
public import Mathlib.Logic.Equiv.Fin.Basic
public import Mathlib.Algebra.BigOperators.Fin

@[expose] public section

noncomputable section

namespace Cert.Model

open Idealize.ShloMosaic

/-! ## Sums re-indexed -/

/-- A sum over `n * k` indices is a sum over `n` groups of `k`. -/
theorem sum_groups {N : ℕ} (n k : ℕ) (h : N = n * k) (f : Fin N → EReal) :
    ∑ p, f p = ∑ a : Fin n, ∑ b : Fin k, f ⟨k * a.val + b.val, by
      have ha := a.isLt; have hb := b.isLt
      calc k * a.val + b.val < k * a.val + k := by omega
        _ = k * (a.val + 1) := by ring
        _ ≤ k * n := Nat.mul_le_mul_left _ ha
        _ = N := by rw [h, Nat.mul_comm]⟩ := by
  subst h
  rw [← finProdFinEquiv.sum_comp, Fintype.sum_prod_type]
  refine Finset.sum_congr rfl fun a _ => Finset.sum_congr rfl fun b _ => congrArg f (Fin.ext ?_)
  show b.val + k * a.val = k * a.val + b.val
  omega

/-- Multiplying by a finite number that is not negative goes through a finite sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-! ## One neighbour: the Chebyshev polynomials and the cutoff -/

/-- The Chebyshev polynomials of the first kind, by their recursion. -/
def cheb : ℕ → ℝ → ℝ
  | 0, _ => 1
  | 1, x => x
  | n + 2, x => 2 * x * cheb (n + 1) x - cheb n x

/-- The smooth step that goes from 1 at 0 to 0 at 1. -/
def smooth (s : ℝ) : ℝ := 1 - 3 * (s * s) + 2 * ((s * s) * s)

/-- The smooth step is not negative on the unit interval: it is `(1 - s)² (1 + 2 s)`. -/
theorem smooth_nonneg (s : ℝ) (h0 : 0 ≤ s) : 0 ≤ smooth s := by
  have e : smooth s = (1 - s) ^ 2 * (1 + 2 * s) := by unfold smooth; ring
  rw [e]; positivity

/-- A number clamped between two finite bounds. -/
def clamp (lo hi : ℝ) (y : EReal) : ℝ := (min (hi : EReal) (max (lo : EReal) y)).toReal

/-- The clamped number is finite, whatever it was. -/
theorem coe_clamp (lo hi : ℝ) (y : EReal) : ((clamp lo hi y : ℝ) : EReal) = min (hi : EReal) (max (lo : EReal) y) := by
  unfold clamp
  refine EReal.coe_toReal ?_ ?_
  · exact ne_of_lt (lt_of_le_of_lt (min_le_left _ _) (EReal.coe_lt_top hi))
  · refine ne_of_gt (lt_min (EReal.bot_lt_coe hi) (lt_of_lt_of_le (EReal.bot_lt_coe lo) (le_max_left _ _)))

/-- The clamped number is at least the lower bound. -/
theorem le_clamp (lo hi : ℝ) (h : lo ≤ hi) (y : EReal) : lo ≤ clamp lo hi y := by
  rw [← EReal.coe_le_coe_iff, coe_clamp]
  exact le_min (EReal.coe_le_coe_iff.mpr h) (le_max_left _ _)

/-- Where the neighbour at the stored distance `d` stands in the cutoff, from 0 to 1. -/
def cutPos (d : EReal) : ℝ := clamp 0 1 (Ideal.div (d * ((6 : ℝ) : EReal) - ((1 / 2 : ℝ) : EReal)) ((11 / 2 : ℝ) : EReal))

/-- The argument of the Chebyshev polynomials, from -1 to 1. -/
def chebPos (d : EReal) : ℝ :=
  clamp (-1) 1 (Ideal.div (((2 : ℝ) : EReal) * (d * ((6 : ℝ) : EReal))) ((6 : ℝ) : EReal) - ((1 : ℝ) : EReal))

/-- The weight of a neighbour: the cutoff's value if it is one (`b`), nothing if it is padding. -/
def weight (d : EReal) (b : Bool) : ℝ := if b then smooth (cutPos d) else 0

/-- A neighbour's weight is not negative. -/
theorem weight_nonneg (d : EReal) (b : Bool) : 0 ≤ weight d b := by
  unfold weight
  split
  · exact smooth_nonneg _ (le_clamp 0 1 zero_le_one _)
  · exact le_refl 0

/-! ## One atom: its eight features -/

/-- A feature of an atom: over its neighbours `(k, j)`, the weighted values of the radial function with coefficients
    `c k · a`, averaged over 64. -/
def feature (c : Fin 2 → Fin 8 → Fin 12 → EReal) (x w : Fin 2 → Fin 64 → ℝ) (q : Fin 8) : EReal :=
  Ideal.div (∑ k : Fin 2, ∑ j : Fin 64, (∑ a : Fin 12, c k q a * ((cheb a.val (x k j) : ℝ) : EReal)) * ((w k j : ℝ) : EReal))
    ((64 : ℝ) : EReal)

/-- Dividing by 64 is multiplying by its inverse. -/
theorem div_64 (y : EReal) : Ideal.div y ((64 : ℝ) : EReal) = y * ((1 / 64 : ℝ) : EReal) :=
  Ideal.div_coe (by norm_num : (64 : ℝ) ≠ 0) y

/-- The feature as one sum: the weights multiplied into the polynomials, the average into the coefficients, and the
    degree summed first. -/
theorem feature_eq (c : Fin 2 → Fin 8 → Fin 12 → EReal) (x w : Fin 2 → Fin 64 → ℝ) (hw : ∀ k j, 0 ≤ w k j) (q : Fin 8) :
    ∑ a : Fin 12, ∑ k : Fin 2, ∑ j : Fin 64, ((w k j * cheb a.val (x k j) : ℝ) : EReal) * Ideal.div (c k q a) ((64 : ℝ) : EReal)
      = feature c x w q := by
  unfold feature
  rw [div_64, sum_mul_coe _ _ _ (by norm_num), Finset.sum_comm]
  refine Finset.sum_congr rfl fun k _ => ?_
  rw [sum_mul_coe _ _ _ (by norm_num), Finset.sum_comm]
  refine Finset.sum_congr rfl fun j _ => ?_
  rw [sum_mul_coe _ _ _ (hw k j), sum_mul_coe _ _ _ (by norm_num)]
  refine Finset.sum_congr rfl fun a _ => ?_
  rw [div_64, EReal.coe_mul]
  ac_rfl

/-- The same with the three indices run as one of 1536. -/
theorem feature_flat (c : Fin 2 → Fin 8 → Fin 12 → EReal) (x w : Fin 2 → Fin 64 → ℝ) (hw : ∀ k j, 0 ≤ w k j) (q : Fin 8)
    (u v : Fin 1536 → EReal)
    (hu : ∀ (a : Fin 12) (k : Fin 2) (j : Fin 64), u ⟨128 * a.val + (64 * k.val + j.val), by omega⟩ = ((w k j * cheb a.val (x k j) : ℝ) : EReal))
    (hv : ∀ (a : Fin 12) (k : Fin 2) (j : Fin 64), v ⟨128 * a.val + (64 * k.val + j.val), by omega⟩ = Ideal.div (c k q a) ((64 : ℝ) : EReal)) :
    ∑ p, u p * v p = feature c x w q := by
  rw [← feature_eq c x w hw q, sum_groups 12 128 rfl]
  refine Finset.sum_congr rfl fun a _ => ?_
  rw [sum_groups 2 64 rfl]
  refine Finset.sum_congr rfl fun k _ => Finset.sum_congr rfl fun j _ => ?_
  rw [← hu, ← hv]

/-! ## One atom: its network -/

/-- The energy of an atom from its features `g`: three layers on the 64 products of two features. -/
def energy (th : EReal → EReal) (W0 : Fin 64 → Fin 64 → EReal) (b0 : Fin 64 → EReal) (W1 : Fin 64 → Fin 64 → EReal)
    (b1 : Fin 64 → EReal) (W2 : Fin 64 → EReal) (b2 : EReal) (g : Fin 8 → EReal) : EReal :=
  (∑ h : Fin 64, W2 h * th ((∑ h' : Fin 64, W1 h' h * th ((∑ i : Fin 64, W0 i h' *
      (g ⟨i.val / 8, by omega⟩ * g ⟨i.val % 8, by omega⟩)) + b0 h')) + b1 h)) + b2

/-- The lane of hidden unit `h` of the network of type `t`: the two networks lie side by side. -/
def lane (t : Fin 2) (h : Fin 64) : Fin 128 := ⟨64 * t.val + h.val, by omega⟩

/-- A sum over the 128 lanes is a sum over both networks' units. -/
theorem sum_lanes (f : Fin 128 → EReal) : ∑ q, f q = ∑ t : Fin 2, ∑ h : Fin 64, f (lane t h) :=
  sum_groups 2 64 rfl f

/-- Both networks run at once on 128 lanes, the second layer's matrix block diagonal and the lanes of the other type
    silenced before the last layer, give the energy of the network of type `t`. -/
theorem energy_lanes (th : EReal → EReal) (W0 : Fin 2 → Fin 64 → Fin 64 → EReal) (b0 : Fin 2 → Fin 64 → EReal)
    (W1 : Fin 2 → Fin 64 → Fin 64 → EReal) (b1 : Fin 2 → Fin 64 → EReal) (W2 : Fin 2 → Fin 64 → EReal) (b2 : EReal)
    (g : Fin 8 → EReal) (t : Fin 2)
    (R : Fin 8 → Fin 64 → EReal) (C0 : Fin 64 → Fin 128 → EReal) (d0 : Fin 128 → EReal) (C1 : Fin 128 → Fin 128 → EReal)
    (d1 : Fin 128 → EReal) (C2 : Fin 128 → EReal) (M : Fin 128 → EReal → EReal)
    (hR : ∀ a i, R a i = if a.val = i.val / 8 then 1 else 0)
    (hC0 : ∀ i s h, C0 i (lane s h) = W0 s i h) (hd0 : ∀ s h, d0 (lane s h) = b0 s h)
    (hC1 : ∀ s h s' h', C1 (lane s h) (lane s' h') = if s = s' then W1 s h h' else 0) (hd1 : ∀ s h, d1 (lane s h) = b1 s h)
    (hC2 : ∀ s h, C2 (lane s h) = W2 s h) (hM : ∀ s h y, M (lane s h) y = if s = t then y else 0) :
    (∑ q, M q (th ((∑ q', th ((∑ i, ((∑ a, g a * R a i) * g ⟨i.val % 8, by omega⟩) * C0 i q') + d0 q') * C1 q' q) + d1 q) * C2 q)) + b2
      = energy th (W0 t) (b0 t) (W1 t) (b1 t) (W2 t) b2 g := by
  have hF : ∀ i : Fin 64, (∑ a, g a * R a i) = g ⟨i.val / 8, by omega⟩ := fun i => by
    rw [Finset.sum_eq_single (⟨i.val / 8, by omega⟩ : Fin 8)]
    · rw [hR, if_pos rfl, mul_one]
    · intro a _ ha
      rw [hR, if_neg (fun e => ha (Fin.ext e)), mul_zero]
    · intro h; exact absurd (Finset.mem_univ _) h
  simp only [hF]
  unfold energy
  congr 1
  rw [sum_lanes, Finset.sum_eq_single t]
  · refine Finset.sum_congr rfl fun h _ => ?_
    rw [hM, if_pos rfl, hC2, hd1, mul_comm, sum_lanes, Finset.sum_eq_single t]
    · congr 3
      refine Finset.sum_congr rfl fun h' _ => ?_
      rw [hC1, if_pos rfl, hd0, mul_comm]
      congr 3
      refine Finset.sum_congr rfl fun i _ => ?_
      rw [hC0, mul_comm]
    · intro s _ hs
      refine Finset.sum_eq_zero fun h' _ => ?_
      rw [hC1, if_neg hs, mul_zero]
    · intro h; exact absurd (Finset.mem_univ _) h
  · intro s _ hs
    refine Finset.sum_eq_zero fun h _ => ?_
    rw [hM, if_neg hs]
  · intro h; exact absurd (Finset.mem_univ _) h

/-- The energy of an atom from what the programs are given of it: its network's parameters, the stored distances `d k j`
    of its neighbours `j` of type `k`, and how many of those are neighbours, `nn k`, the rest being padding. -/
def atomEnergy (th : EReal → EReal) (c : Fin 2 → Fin 8 → Fin 12 → EReal) (W0 : Fin 64 → Fin 64 → EReal) (b0 : Fin 64 → EReal)
    (W1 : Fin 64 → Fin 64 → EReal) (b1 : Fin 64 → EReal) (W2 : Fin 64 → EReal) (b2 : EReal)
    (d : Fin 2 → Fin 64 → EReal) (nn : Fin 2 → BitVec 32) : EReal :=
  energy th W0 b0 W1 b1 W2 b2
    (feature c (fun k j => chebPos (d k j)) fun k j => weight (d k j) ((BitVec.ofNat 32 j.val).slt (nn k)))

end Cert.Model

end
-- ==== Proof.Words.lean ====
/-
  The numbers the two programs write as words, and what the radial arithmetic of one neighbour comes to with them: the
  place in the cutoff, the argument of the Chebyshev polynomials, and the cutoff's polynomial in the two orders in which
  the programs multiply it out.
-/
module

public import proofs.«01_k».proof.Proof.Model
public import Idealize.ShloMosaic.Lib.Pointwise

@[expose] public section

noncomputable section

namespace Cert.Model

open Idealize.ShloMosaic

/-- The word of 6, -/
theorem word_six : Ideal.ofBits .f32 0x40C00000#32 = ((6 : ℝ) : EReal) := by
  simp [Ideal.ofBits, Ideal.ieee, -EReal.coe_mul]; norm_num
/-- of one half, -/
theorem word_half : Ideal.ofBits .f32 0x3F000000#32 = ((1 / 2 : ℝ) : EReal) := by
  simp [Ideal.ofBits, Ideal.ieee, -EReal.coe_mul]; norm_num
/-- of 5.5, -/
theorem word_five_half : Ideal.ofBits .f32 0x40B00000#32 = ((11 / 2 : ℝ) : EReal) := by
  simp [Ideal.ofBits, Ideal.ieee, -EReal.coe_mul]; norm_num
/-- of 3, -/
theorem word_three : Ideal.ofBits .f32 0x40400000#32 = ((3 : ℝ) : EReal) := by
  simp [Ideal.ofBits, Ideal.ieee, -EReal.coe_mul]; norm_num
/-- of 2, -/
theorem word_two : Ideal.ofBits .f32 0x40000000#32 = ((2 : ℝ) : EReal) := by
  simp [Ideal.ofBits, Ideal.ieee, -EReal.coe_mul]; norm_num
/-- of -1, -/
theorem word_neg_one : Ideal.ofBits .f32 0xBF800000#32 = ((-1 : ℝ) : EReal) := by
  simp [Ideal.ofBits, Ideal.ieee, -EReal.coe_mul]; norm_num
/-- and of 64. -/
theorem word_sixty_four : Ideal.ofBits .f32 0x42800000#32 = ((64 : ℝ) : EReal) := by
  simp [Ideal.ofBits, Ideal.ieee, -EReal.coe_mul]; norm_num

/-- The place in the cutoff, as both programs compute it. -/
theorem cutPos_eq (d : EReal) :
    min 1 (max 0 (Ideal.div (d * ((6 : ℝ) : EReal) - ((1 / 2 : ℝ) : EReal)) ((11 / 2 : ℝ) : EReal))) = ((cutPos d : ℝ) : EReal) := by
  unfold cutPos; rw [coe_clamp, EReal.coe_one, EReal.coe_zero]

/-- The argument of the polynomials, as both programs compute it. -/
theorem chebPos_eq (d : EReal) :
    min 1 (max ((-1 : ℝ) : EReal) (Ideal.div (((2 : ℝ) : EReal) * (d * ((6 : ℝ) : EReal))) ((6 : ℝ) : EReal) - 1)) = ((chebPos d : ℝ) : EReal) := by
  unfold chebPos; rw [coe_clamp, EReal.coe_one]

/-- The cutoff's polynomial multiplied out from the left, -/
theorem smooth_left (s : ℝ) :
    1 - ((3 : ℝ) : EReal) * (s : EReal) * (s : EReal) + ((2 : ℝ) : EReal) * (s : EReal) * (s : EReal) * (s : EReal) = ((smooth s : ℝ) : EReal) := by
  rw [← EReal.coe_one]
  simp only [← EReal.coe_mul, ← EReal.coe_sub, ← EReal.coe_add]
  congr 1; unfold smooth; ring

/-- and from the powers. -/
theorem smooth_powers (s : ℝ) :
    1 - ((3 : ℝ) : EReal) * ((s : EReal) * (s : EReal)) + ((2 : ℝ) : EReal) * ((s : EReal) * (s : EReal) * (s : EReal)) = ((smooth s : ℝ) : EReal) := by
  rw [← EReal.coe_one]
  simp only [← EReal.coe_mul, ← EReal.coe_sub, ← EReal.coe_add]
  congr 1

/-- One step of the recursion of the polynomials, -/
theorem cheb_step (n : ℕ) (x : ℝ) :
    ((2 : ℝ) : EReal) * (x : EReal) * ((cheb (n + 1) x : ℝ) : EReal) - ((cheb n x : ℝ) : EReal) = ((cheb (n + 2) x : ℝ) : EReal) := by
  simp only [← EReal.coe_mul, ← EReal.coe_sub]
  congr 1

/-- and the same step with a weight multiplied in. -/
theorem weighted_step (n : ℕ) (w x : ℝ) :
    ((2 : ℝ) : EReal) * (x : EReal) * ((w * cheb (n + 1) x : ℝ) : EReal) - ((w * cheb n x : ℝ) : EReal) = ((w * cheb (n + 2) x : ℝ) : EReal) := by
  simp only [← EReal.coe_mul, ← EReal.coe_sub]
  congr 1
  show 2 * x * (w * cheb (n + 1) x) - w * cheb n x = w * (2 * x * cheb (n + 1) x - cheb n x)
  ring

end Cert.Model

end
-- ==== Proof.BlockValue.lean ====
/-
  The block of 400 atom energies that one call of the kernel's body leaves, read at an atom: it is `Model.atomEnergy` of
  what the staged blocks hold for that atom.
-/
module

public import proofs.«01_k».proof.Proof.Body
public import proofs.«01_k».proof.Proof.Words
public import Idealize.ShloMosaic.Lib.Pointwise

@[expose] public section

set_option maxRecDepth 16384

noncomputable section

namespace Cert.KernelIdeal.Run

open Cert.KernelIdeal Cert.KernelIdeal.Gen Cert.Model
open Idealize.ShloMosaic

/-! ## The neighbours: distance and weight -/

/-- The distance in the kernel's unit. -/
theorem pay3_apply (x0 : Vec Ideal S400x128 .f32) (i : Fin 400) (q : Fin 128) :
    k0_pay3 (F := Ideal) x0 (ix2 i q) = x0 (ix2 i q) * ((6 : ℝ) : EReal) := by
  pointwise [k0_pay3]
  rw [word_six]

/-- Which of its type's neighbours a lane holds: the lane's low six bits. -/
theorem lane_low : ∀ (k : Fin 2) (j : Fin 64), IntOp.andi (BitVec.ofNat 32 (lane k j).val) 63#32 = BitVec.ofNat 32 j.val := by
  decide +kernel

/-- Which type's neighbours a lane holds: the lane's seventh bit. -/
theorem lane_high : ∀ (k : Fin 2) (j : Fin 64),
    IntOp.cmpi .eq (IntOp.shrsi ArithUnit.vector (BitVec.ofNat 32 (lane k j).val) 6#32) 0#32 = BitVec.ofBool (decide (k = 0)) := by
  decide +kernel

/-- The weight of the neighbour `j` of type `k`. -/
theorem pay4_apply (x0 : Vec Ideal S400x128 .f32) (x1 : Vec Ideal S400x2 .i32) (i : Fin 400) (k : Fin 2) (j : Fin 64) :
    k0_pay4 (F := Ideal) x0 (col0 x1) (col1 x1) (ix2 i (lane k j))
      = ((weight (x0 (ix2 i (lane k j))) ((BitVec.ofNat 32 j.val).slt (x1 (ix2 i k))) : ℝ) : EReal) := by
  pointwise [k0_pay4, pay3_apply, col0, col1]
  rw [lane_low, lane_high, word_half, word_five_half, word_three, word_two, cutPos_eq, smooth_left]
  have e : Scalar.select (BitVec.ofBool (decide (k = 0))) (x1 (ix2 i 0)) (x1 (ix2 i 1)) = x1 (ix2 i k) := by
    match k with
    | ⟨0, _⟩ => rfl
    | ⟨1, _⟩ => rfl
  rw [e]
  unfold weight IntOp.cmpi
  cases h : (BitVec.ofNat 32 j.val).slt (x1 (ix2 i k))
  · simp [h, Scalar.select]
  · simp [h, Scalar.select]

/-! ## The radial functions -/

/-- The argument of the polynomials, for a whole block. -/
def argB (v3 : FVec Ideal S400x128 .f32) : FVec Ideal S400x128 .f32 :=
  minimumf (broadcast S400x128 (Scalar.ofBits .f32 0x3F800000#32))
    (maximumf (broadcast S400x128 (Scalar.ofBits .f32 0xBF800000#32))
      (subf (divf (mulf (broadcast S400x128 (Scalar.ofBits .f32 0x40000000#32)) v3) (broadcast S400x128 (Scalar.ofBits .f32 0x40C00000#32)))
        (broadcast S400x128 (Scalar.ofBits .f32 0x3F800000#32))))

/-- The weighted polynomials, degree by degree, for a whole block. -/
def famB (v3 v40 : FVec Ideal S400x128 .f32) : ℕ → FVec Ideal S400x128 .f32
  | 0 => v40
  | 1 => mulf v40 (argB v3)
  | n + 2 => subf (mulf (mulf (broadcast S400x128 (Scalar.ofBits .f32 0x40000000#32)) (argB v3)) (famB v3 v40 (n + 1))) (famB v3 v40 n)

/-- The argument, at an atom and a lane. -/
theorem argB_apply (v3 : FVec Ideal S400x128 .f32) (i : Fin 400) (q : Fin 128) (d : EReal)
    (h : v3 (ix2 i q) = d * ((6 : ℝ) : EReal)) : argB v3 (ix2 i q) = ((chebPos d : ℝ) : EReal) := by
  pointwise [argB]
  rw [h, word_two, word_six, word_neg_one, chebPos_eq]

/-- The weighted polynomials, at an atom and a lane. -/
theorem famB_apply (v3 v40 : FVec Ideal S400x128 .f32) (i : Fin 400) (q : Fin 128) (d : EReal) (w : ℝ)
    (h : v3 (ix2 i q) = d * ((6 : ℝ) : EReal)) (hw : v40 (ix2 i q) = (w : EReal)) :
    ∀ n : ℕ, famB v3 v40 n (ix2 i q) = ((w * cheb n (chebPos d) : ℝ) : EReal)
      ∧ famB v3 v40 (n + 1) (ix2 i q) = ((w * cheb (n + 1) (chebPos d) : ℝ) : EReal)
  | 0 => by
    refine ⟨?_, ?_⟩
    · show v40 (ix2 i q) = _
      rw [hw]; simp [cheb]
    · show v40 (ix2 i q) * argB v3 (ix2 i q) = _
      rw [hw, argB_apply v3 i q d h, ← EReal.coe_mul]; rfl
  | n + 1 => by
    refine ⟨(famB_apply v3 v40 i q d w h hw n).2, ?_⟩
    show Ideal.ofBits .f32 0x40000000#32 * argB v3 (ix2 i q) * famB v3 v40 (n + 1) (ix2 i q) - famB v3 v40 n (ix2 i q) = _
    rw [(famB_apply v3 v40 i q d w h hw n).1, (famB_apply v3 v40 i q d w h hw n).2, argB_apply v3 i q d h, word_two, weighted_step]

/-- The twelve degrees side by side: 1536 numbers for each atom. -/
def basisB (v3 v40 : FVec Ideal S400x128 .f32) : FVec Ideal S400x1536 .f32 :=
  concatenate S400x1536 1 (List.ofFn fun n : Fin 12 => (⟨S400x128, famB v3 v40 n.val⟩ : (s : Shape) × (s.Idx → EReal)))
    concatenates_S400x128_S400x128_S400x128_S400x128_S400x128_S400x128_S400x128_S400x128_S400x128_S400x128_S400x128_S400x128_S400x1536_d1

/-- The number at degree `a` and lane `q`. -/
theorem basisB_apply (v3 v40 : FVec Ideal S400x128 .f32) (i : Fin 400) (a : Fin 12) (q : Fin 128) (hp : 128 * a.val + q.val < 1536) :
    basisB v3 v40 (ix2 i ⟨128 * a.val + q.val, hp⟩) = famB v3 v40 a.val (ix2 i q) := by
  unfold basisB
  refine concatenate_ofFn_apply (t := S400x1536) (s₁ := S400x128) 1 (fun n : Fin 12 => famB v3 v40 n.val) _ rfl 128 rfl _ a ?_ _ ?_ ?_
  · show (128 * a.val + q.val) / 128 = a.val
    have := q.isLt; omega
  · show q.val = (128 * a.val + q.val) % 128
    have := q.isLt; omega
  · intro b hb
    match b with
    | ⟨0, _⟩ => rfl
    | ⟨1, _⟩ => exact absurd rfl hb

/-- The features as the body computes them: the basis times both types' coefficients, the atom's type's half kept. -/
theorem pay6_eq (v3 v40 : Vec Ideal S400x128 .f32) (x3 : Vec Ideal S1536x16 .f32) (x2 : Vec Ideal S400x1 .i32) :
    k0_pay6 (F := Ideal) v3 v40 x3 x2
      = select (broadcastTo S400x8 (shapeCast S400x1 (k0_pay5 (F := Ideal) x2) shapeCasts_S400x1_S400x1) broadcasts_S400x1_S400x8)
          (extractStridedSlice S400x8 ![0, 0] (matmul dot_S400x1536_S1536x16_S400x16_1_0_0_1_n_n (some .fp32) (basisB v3 v40)
            (shapeCast S1536x16 x3 shapeCasts_S1536x16_S1536x16 : FVec Ideal S1536x16 .f32) (constant S400x16 .f32 0x00000000#32)) slices_S400x16_o0_0_S400x8)
          (extractStridedSlice S400x8 ![0, 8] (matmul dot_S400x1536_S1536x16_S400x16_1_0_0_1_n_n (some .fp32) (basisB v3 v40)
            (shapeCast S1536x16 x3 shapeCasts_S1536x16_S1536x16 : FVec Ideal S1536x16 .f32) (constant S400x16 .f32 0x00000000#32)) slices_S400x16_o0_8_S400x8) := rfl

/-- The features at an atom, as sums over the 1536 numbers. -/
theorem pay6_sum (v3 v40 : Vec Ideal S400x128 .f32) (x3 : Vec Ideal S1536x16 .f32) (x2 : Vec Ideal S400x1 .i32) (i : Fin 400)
    (t : Fin 2) (ht : x2 (ix2 i 0) = BitVec.ofNat 32 t.val) (q : Fin 8) :
    k0_pay6 (F := Ideal) v3 v40 x3 x2 (ix2 i q) = ∑ p : Fin 1536, basisB v3 v40 (ix2 i p) * x3 (ix2 p ⟨8 * t.val + q.val, by omega⟩) := by
  rw [pay6_eq]
  generalize basisB v3 v40 = B
  pointwise [k0_pay5]
  rw [ht]
  match t with
  | ⟨0, _⟩ =>
    show ∑ p : Fin 1536, B (ix2 i p) * x3 (ix2 p ⟨q.val, by omega⟩) = _
    refine Finset.sum_congr rfl fun p _ => congrArg (fun z => B (ix2 i p) * x3 (ix2 p z)) (Fin.ext ?_)
    show q.val = 8 * 0 + q.val
    omega
  | ⟨1, _⟩ => rfl

/-- The features at an atom. -/
theorem pay6_apply (x0 : Vec Ideal S400x128 .f32) (x1 : Vec Ideal S400x2 .i32) (x3 : Vec Ideal S1536x16 .f32) (x2 : Vec Ideal S400x1 .i32)
    (i : Fin 400) (t : Fin 2) (ht : x2 (ix2 i 0) = BitVec.ofNat 32 t.val) (c : Fin 2 → Fin 8 → Fin 12 → EReal)
    (hc : ∀ (a : Fin 12) (k : Fin 2) (j : Fin 64) (q : Fin 8),
      x3 (ix2 ⟨128 * a.val + (64 * k.val + j.val), by omega⟩ ⟨8 * t.val + q.val, by omega⟩) = Ideal.div (c k q a) ((64 : ℝ) : EReal)) (q : Fin 8) :
    k0_pay6 (F := Ideal) (k0_pay3 x0) (k0_pay4 x0 (col0 x1) (col1 x1)) x3 x2 (ix2 i q)
      = feature c (fun k j => chebPos (x0 (ix2 i (lane k j)))) (fun k j => weight (x0 (ix2 i (lane k j))) ((BitVec.ofNat 32 j.val).slt (x1 (ix2 i k)))) q := by
  rw [pay6_sum _ _ _ _ i t ht]
  refine feature_flat c _ _ (fun k j => weight_nonneg _ _) q _ _ (fun a k j => ?_) (fun a k j => hc a k j q)
  exact (basisB_apply _ _ i a (lane k j) _).trans
    (famB_apply _ _ i (lane k j) _ _ (pay3_apply x0 i (lane k j)) (pay4_apply x0 x1 i k j) a.val).1

/-- The features repeated eight times. -/
theorem pay7_apply (v3 v40 : Vec Ideal S400x128 .f32) (x3 : Vec Ideal S1536x16 .f32) (x2 : Vec Ideal S400x1 .i32) (i : Fin 400) (l : Fin 64) :
    k0_pay7 (F := Ideal) v3 v40 x3 x2 (ix2 i l) = k0_pay6 (F := Ideal) v3 v40 x3 x2 (ix2 i ⟨l.val % 8, by omega⟩) := by
  unfold k0_pay7
  generalize k0_pay6 (F := Ideal) v3 v40 x3 x2 = y
  refine concatenate_replicate_apply (t := S400x64) (s₁ := S400x8) 1 8 y _ rfl _ _ rfl fun b hb => ?_
  match b with
  | ⟨0, _⟩ => rfl
  | ⟨1, _⟩ => exact absurd rfl hb

/-! ## The network -/

/-- The lanes that are kept are those of the atom's type. -/
theorem keep_lane : ∀ (s t : Fin 2) (h : Fin 64),
    IntOp.xori (IntOp.xori (IntOp.cmpi .slt (BitVec.ofNat 32 (lane s h).val) 64#32) (IntOp.cmpi .eq (BitVec.ofNat 32 t.val) 0#32)) 1#1
      = BitVec.ofBool (decide (s = t)) := by
  decide +kernel

/-- The third matrix product, read at an atom. -/
theorem pay8_apply (is0 : IVec S400x1 1) (g : Vec Ideal S400x8 .f32) (r : Vec Ideal S400x64 .f32) (x10 : Vec Ideal S1x8x64 .f32)
    (x4 : Vec Ideal S1x64x128 .f32) (x5 : Vec Ideal S1x1x128 .f32) (x6 : Vec Ideal S1x128x128 .f32) (x7 : Vec Ideal S1x1x128 .f32)
    (x8 : Vec Ideal S1x128x1 .f32) (i : Fin 400) :
    k0_pay8 (F := Ideal) is0 g r x10 x4 x5 x6 x7 x8 (ix2 i 0)
      = ∑ q : Fin 128, Scalar.select (IntOp.xori (IntOp.xori (IntOp.cmpi .slt (BitVec.ofNat 32 q.val) 64#32) (is0 (ix2 i 0))) 1#1)
          (Ideal.tanh ((∑ q' : Fin 128, Ideal.tanh ((∑ l : Fin 64, (∑ a : Fin 8, g (ix2 i a) * x10 (ix3 0 a l)) * r (ix2 i l) * x4 (ix3 0 l q'))
            + x5 (ix3 0 0 q')) * x6 (ix3 0 q' q)) + x7 (ix3 0 0 q)) * x8 (ix3 0 q 0)) 0 := by
  pointwise [k0_pay8]

/-- THE BLOCK AT AN ATOM: the atom's energy by the network of its type `t`, whatever the parameters' blocks hold, as long as
    they hold both types' parameters side by side. -/
theorem eiVal_apply (x0 : Vec Ideal S400x128 .f32) (x1 : Vec Ideal S400x2 .i32) (x2 : Vec Ideal S400x1 .i32) (x3 : Vec Ideal S1536x16 .f32)
    (x4 : Vec Ideal S1x64x128 .f32) (x5 : Vec Ideal S1x1x128 .f32) (x6 : Vec Ideal S1x128x128 .f32) (x7 : Vec Ideal S1x1x128 .f32)
    (x8 : Vec Ideal S1x128x1 .f32) (x9 : Vec Ideal S1x1x2 .f32) (x10 : Vec Ideal S1x8x64 .f32) (i : Fin 400)
    (t : Fin 2) (ht : x2 (ix2 i 0) = BitVec.ofNat 32 t.val)
    (c : Fin 2 → Fin 2 → Fin 8 → Fin 12 → EReal) (W0 : Fin 2 → Fin 64 → Fin 64 → EReal) (b0 : Fin 2 → Fin 64 → EReal)
    (W1 : Fin 2 → Fin 64 → Fin 64 → EReal) (b1 : Fin 2 → Fin 64 → EReal) (W2 : Fin 2 → Fin 64 → EReal) (b2 : Fin 2 → EReal)
    (h3 : ∀ (a : Fin 12) (k : Fin 2) (j : Fin 64) (s : Fin 2) (q : Fin 8),
      x3 (ix2 ⟨128 * a.val + (64 * k.val + j.val), by omega⟩ ⟨8 * s.val + q.val, by omega⟩) = Ideal.div (c s k q a) ((64 : ℝ) : EReal))
    (h10 : ∀ (a : Fin 8) (l : Fin 64), x10 (ix3 0 a l) = if a.val = l.val / 8 then 1 else 0)
    (h4 : ∀ (l : Fin 64) (s : Fin 2) (h : Fin 64), x4 (ix3 0 l (lane s h)) = W0 s l h)
    (h5 : ∀ (s : Fin 2) (h : Fin 64), x5 (ix3 0 0 (lane s h)) = b0 s h)
    (h6 : ∀ (s : Fin 2) (h : Fin 64) (s' : Fin 2) (h' : Fin 64), x6 (ix3 0 (lane s h) (lane s' h')) = if s = s' then W1 s h h' else 0)
    (h7 : ∀ (s : Fin 2) (h : Fin 64), x7 (ix3 0 0 (lane s h)) = b1 s h)
    (h8 : ∀ (s : Fin 2) (h : Fin 64), x8 (ix3 0 (lane s h) 0) = W2 s h)
    (h9 : ∀ s : Fin 2, x9 (ix3 0 0 s) = b2 s) :
    eiVal x0 x1 x2 x3 x4 x5 x6 x7 x8 x9 x10 (ix2 i 0)
      = atomEnergy Ideal.tanh (c t) (W0 t) (b0 t) (W1 t) (b1 t) (W2 t) (b2 t) (fun k j => x0 (ix2 i (lane k j))) (fun k => x1 (ix2 i k)) := by
  have e5 : k0_pay5 (F := Ideal) x2 (ix2 i 0) = IntOp.cmpi .eq (BitVec.ofNat 32 t.val) 0#32 := by
    pointwise [k0_pay5]; rw [ht]
  have eb : Scalar.select (IntOp.cmpi .eq (BitVec.ofNat 32 t.val) 0#32) (x9 (ix3 0 0 0)) (x9 (ix3 0 0 1)) = b2 t := by
    match t with
    | ⟨0, _⟩ => exact h9 0
    | ⟨1, _⟩ => exact h9 1
  unfold eiVal netOut atomEnergy
  pointwise [k0_pay1, bias0, bias1]
  rw [pay8_apply, e5, eb]
  simp only [pay7_apply, pay6_apply x0 x1 x3 x2 i t ht (c t) (fun a k j q => h3 a k j t q)]
  exact energy_lanes Ideal.tanh W0 b0 W1 b1 W2 (b2 t) _ t (fun a l => x10 (ix3 0 a l)) (fun l q => x4 (ix3 0 l q)) (fun q => x5 (ix3 0 0 q))
    (fun q' q => x6 (ix3 0 q' q)) (fun q => x7 (ix3 0 0 q)) (fun q => x8 (ix3 0 q 0))
    (fun q y => Scalar.select (IntOp.xori (IntOp.xori (IntOp.cmpi .slt (BitVec.ofNat 32 q.val) 64#32) (IntOp.cmpi .eq (BitVec.ofNat 32 t.val) 0#32)) 1#1) y 0)
    h10 h4 h5 h6 h7 h8 (fun s h y => by
      rw [keep_lane]
      by_cases e : s = t
      · rw [if_pos e, decide_eq_true e]; rfl
      · rw [if_neg e, decide_eq_false e]; rfl)

end Cert.KernelIdeal.Run

end
-- ==== Proof.Gather.lean ====
/-
  A gather that picks one position of one axis of its operand by an index word, read at an index. The kernel's program
  gathers the coefficients of each lane's neighbour type that way, and the reference the weights of each atom's type.
-/
module

public import Idealize.ShloMosaic.Lib.Pointwise
public import Idealize.ShloMosaic.Lib.WordArith

@[expose] public section

noncomputable section

namespace Cert.Model

open Idealize.ShloMosaic

/-- A gather over the single operand axis `a₀`, with no batching axes: where the start index that result index `j` reads
    is the word of the number that index `i` has on axis `a₀`, and `j`'s offset coordinates are `i`'s on the other axes,
    the gather's element at `j` is the operand's at `i`. -/
theorem gather_pick {α : Type} {s si t : Shape} (d : GatherDims s si t) (a₀ : Fin s.rank)
    (hob : d.operandBatchingDims = []) (hcol : d.collapsedSliceDims = [a₀]) (hsim : d.startIndexMap = [a₀])
    (x : s.Idx → α) (idx : IVec si 32) (j : t.Idx) (y : si.Idx) (i : s.Idx)
    (hsi : ∀ k, d.siIdx j k = y) (hidx : idx y = BitVec.ofNat 32 (i a₀).val) (hlt : s.size a₀ < 2 ^ 31)
    (hoff : ∀ a, a ≠ a₀ → d.offCoord j a = (i a).val) :
    Host.gather d x idx j = x i := by
  unfold Host.gather
  refine congrArg x (funext fun a => Fin.ext ?_)
  show d.start j idx a + d.batchCoord j a + d.offCoord j a = (i a).val
  rw [d.batchCoord_eq_zero _ _ (by rw [hob]; exact List.not_mem_nil), Nat.add_zero]
  by_cases ha : a = a₀
  · subst ha
    have hi := (i a).isLt
    rw [d.offCoord_eq_zero _ _ (fun h => ((d.mem_sKept _).1 h).1 (by rw [hcol]; exact List.mem_singleton.2 rfl)),
      Nat.add_zero]
    unfold GatherDims.start
    rw [dif_pos (by rw [hsim]; exact List.mem_singleton.2 rfl), hsi, hidx,
      d.slice_collapsed a (by rw [hcol]; exact List.mem_singleton.2 rfl),
      WordArith.toInt_ofNat_small _ (by omega)]
    have : ((((i a).val : ℕ) : ℤ)).toNat = (i a).val := Int.toNat_natCast _
    rw [this]
    omega
  · unfold GatherDims.start
    rw [dif_neg (by rw [hsim]; exact fun h => ha (List.mem_singleton.1 h)), hoff a ha, Nat.zero_add]

end Cert.Model

end
-- ==== Proof.HostValue.lean ====
/-
  The arrays the program before the launch prepares for the kernel, read at an index down to the program's arguments.
-/
module

public import proofs.«01_k».proof.Proof.Gen.KernelIdeal.Frame
public import proofs.«01_k».proof.Proof.Words
public import proofs.«01_k».proof.Proof.Gather
public import Idealize.ShloMosaic.Lib.Pointwise
public import Idealize.ShloMosaic.Lib.StableHlo.ReadAt

@[expose] public section

set_option maxRecDepth 16384

noncomputable section

namespace Cert.KernelIdeal.Run

open Cert.KernelIdeal Cert.KernelIdeal.Gen Cert.Model
open Idealize.ShloMosaic Idealize.ShloMosaic.TcCoe

variable (m : (ℓ : Loc nD τ sig) → Buf (Elt Ideal) ℓ) (c : Dev nD)

/-- The distances as the kernel takes them: row `n`, lane `q` hold the first component of pair `q` of atom `n`. -/
theorem v2_at (n : Fin 10000) (q : Fin 128) :
    (V m c main_v2 : S10000x128.Idx → EReal) (ix2 n q) = (m (c, Proc.devRef .tc main_arg3) : S1x10000x128x4.Idx → EReal) (ix4 0 n q 0) := by
  unfold V V0; simp only [List.flatten_cons, List.flatten_nil, List.append_nil]; unfold hostOps0
  after_reads_at

/-- The neighbour counts as the kernel takes them. -/
theorem v3_at (n : Fin 10000) (k : Fin 2) :
    (V m c main_v3 : S10000x2.Idx → BitVec 32) (ix2 n k) = (m (c, Proc.devRef .tc main_arg4) : S1x10000x2.Idx → BitVec 32) (ix3 0 n k) := by
  unfold V V0; simp only [List.flatten_cons, List.flatten_nil, List.append_nil]; unfold hostOps0
  after_reads_at

/-- The atom types as the kernel takes them. -/
theorem v4_at (n : Fin 10000) :
    (V m c main_v4 : S10000x1.Idx → BitVec 32) (ix2 n 0) = (m (c, Proc.devRef .tc main_arg1) : S10000.Idx → BitVec 32) (ix1 n) := by
  unfold V V0; simp only [List.flatten_cons, List.flatten_nil, List.append_nil]; unfold hostOps0
  after_reads_at

/-- A value picked out of two halves of 64 lanes. -/
theorem pick_lane {α : Type} (s : Fin 2) (h : Fin 64) (f : Fin 2 → Fin 64 → α) (p : ¬ (lane s h).val < 64 → (lane s h).val - 64 < 64) :
    (if h1 : (lane s h).val < 64 then f 0 ⟨(lane s h).val, h1⟩ else f 1 ⟨(lane s h).val - 64, p h1⟩) = f s h := by
  have hh := h.isLt
  match s with
  | ⟨0, _⟩ =>
    have e : (lane ⟨0, by omega⟩ h).val = h.val := by simp [lane]
    rw [dif_pos (by omega)]
    exact congrArg (f 0) (Fin.ext e)
  | ⟨1, _⟩ =>
    have e : (lane ⟨1, by omega⟩ h).val = 64 + h.val := by simp [lane]
    rw [dif_neg (by omega)]
    refine congrArg (f 1) (Fin.ext ?_)
    show (lane ⟨1, by omega⟩ h).val - 64 = h.val
    omega

/-- An entry of the matrix with two diagonal blocks of 64 by 64, zero elsewhere. -/
theorem pick_block (s : Fin 2) (h : Fin 64) (s' : Fin 2) (h' : Fin 64) (g : Fin 2 → Fin 64 → Fin 64 → EReal)
    (p : ¬ (lane s h).val < 64 → (lane s h).val - 64 < 64) (p' : ¬ (lane s' h').val < 64 → (lane s' h').val - 64 < 64) :
    (if h1 : (lane s h).val < 64 then
      if h2 : (lane s' h').val < 64 then g 0 ⟨(lane s h).val, h1⟩ ⟨(lane s' h').val, h2⟩ else 0
    else
      if h2 : (lane s' h').val < 64 then 0
      else g 1 ⟨(lane s h).val - 64, p h1⟩ ⟨(lane s' h').val - 64, p' h2⟩) = if s = s' then g s h h' else 0 := by
  rcases (show s = 0 ∨ s = 1 by omega) with rfl | rfl <;> rcases (show s' = 0 ∨ s' = 1 by omega) with rfl | rfl <;> simp [lane]

/-- The first layer: its columns are the two types' weights side by side. -/
theorem v22_at (l : Fin 64) (s : Fin 2) (h : Fin 64) :
    (V m c main_v22 : S1x64x128.Idx → EReal) (ix3 0 l (lane s h)) = (m (c, Proc.devRef .tc main_arg7) : S2x64x64.Idx → EReal) (ix3 s l h) := by
  unfold V V0; simp only [List.flatten_cons, List.flatten_nil, List.append_nil]; unfold hostOps0
  after_reads_at
  after_reads_at
  exact pick_lane s h (fun s h => (m (c, Proc.devRef .tc main_arg7) : S2x64x64.Idx → EReal) (ix3 s l h)) _

/-- The first layer's bias: the two types' side by side. -/
theorem v28_at (s : Fin 2) (h : Fin 64) :
    (V m c main_v28 : S1x1x128.Idx → EReal) (ix3 0 0 (lane s h)) = (m (c, Proc.devRef .tc main_arg8) : S2x64.Idx → EReal) (ix2 s h) := by
  unfold V V0; simp only [List.flatten_cons, List.flatten_nil, List.append_nil]; unfold hostOps0
  after_reads_at
  after_reads_at
  exact pick_lane s h (fun s h => (m (c, Proc.devRef .tc main_arg8) : S2x64.Idx → EReal) (ix2 s h)) _

/-- The second layer's bias: the two types' side by side. -/
theorem v45_at (s : Fin 2) (h : Fin 64) :
    (V m c main_v45 : S1x1x128.Idx → EReal) (ix3 0 0 (lane s h)) = (m (c, Proc.devRef .tc main_arg10) : S2x64.Idx → EReal) (ix2 s h) := by
  unfold V V0; simp only [List.flatten_cons, List.flatten_nil, List.append_nil]; unfold hostOps0
  after_reads_at
  after_reads_at
  exact pick_lane s h (fun s h => (m (c, Proc.devRef .tc main_arg10) : S2x64.Idx → EReal) (ix2 s h)) _

/-- The last layer: the two types' weights one above the other. -/
theorem v51_at (s : Fin 2) (h : Fin 64) :
    (V m c main_v51 : S1x128x1.Idx → EReal) (ix3 0 (lane s h) 0) = (m (c, Proc.devRef .tc main_arg11) : S2x64x1.Idx → EReal) (ix3 s h 0) := by
  unfold V V0; simp only [List.flatten_cons, List.flatten_nil, List.append_nil]; unfold hostOps0
  after_reads_at
  after_reads_at
  exact pick_lane s h (fun s h => (m (c, Proc.devRef .tc main_arg11) : S2x64x1.Idx → EReal) (ix3 s h 0)) _

/-- The second layer: the two types' weights as the diagonal blocks of one matrix, zero elsewhere. -/
theorem v39_at (s : Fin 2) (h : Fin 64) (s' : Fin 2) (h' : Fin 64) :
    (V m c main_v39 : S1x128x128.Idx → EReal) (ix3 0 (lane s h) (lane s' h'))
      = if s = s' then (m (c, Proc.devRef .tc main_arg9) : S2x64x64.Idx → EReal) (ix3 s h h') else (0 : EReal) := by
  unfold V V0; simp only [List.flatten_cons, List.flatten_nil, List.append_nil]; unfold hostOps0
  after_reads_at
  after_reads_at
  refine Eq.trans ?_ (pick_block s h s' h' (fun s i j => (m (c, Proc.devRef .tc main_arg9) : S2x64x64.Idx → EReal) (ix3 s i j))
    (fun _ => by have := (lane s h).isLt; omega) (fun _ => by have := (lane s' h').isLt; omega))
  by_cases h1 : (lane s h).val < 64 <;> by_cases h2 : (lane s' h').val < 64
  · exact (dif_pos h1).trans ((dif_pos h2).trans ((dif_pos h1).trans (dif_pos h2)).symm)
  · exact (dif_pos h1).trans ((dif_neg h2).trans ((dif_pos h1).trans (dif_neg h2)).symm)
  · exact (dif_neg h1).trans ((dif_pos h2).trans ((dif_neg h1).trans (dif_pos h2)).symm)
  · exact (dif_neg h1).trans ((dif_neg h2).trans ((dif_neg h1).trans (dif_neg h2)).symm)

/-- The word the gather of the coefficients takes at a lane is the number of the neighbour type the lane belongs to. -/
theorem lane_word : ∀ l : Fin 128,
    Scalar.select (IntOp.cmpi .slt (lit0 (S128.rowMajor (ix1 l))) 0#32) (IntOp.addi (lit0 (S128.rowMajor (ix1 l))) 2#32)
      (lit0 (S128.rowMajor (ix1 l))) = BitVec.ofNat 32 (l.val / 64) := by decide

/-- The coefficient array: row `128 a + 64 k + j`, column `8 s + q` hold the coefficient of atom type `s`, neighbour type
    `k`, feature `q` and polynomial `a`, over 64. -/
theorem v15_at (a : Fin 12) (k : Fin 2) (j : Fin 64) (s : Fin 2) (q : Fin 8) (hp : 128 * a.val + (64 * k.val + j.val) < 1536) (hr : 8 * s.val + q.val < 16) :
    (V m c main_v15 : S1536x16.Idx → EReal) (ix2 ⟨128 * a.val + (64 * k.val + j.val), hp⟩ ⟨8 * s.val + q.val, hr⟩)
      = Ideal.div ((m (c, Proc.devRef .tc main_arg6) : S2x2x8x12.Idx → EReal) (ix4 s k q a)) ((64 : ℝ) : EReal) := by
  unfold V V0; simp only [List.flatten_cons, List.flatten_nil, List.append_nil]; unfold hostOps0
  after_reads_at
  rw [word_sixty_four]
  refine congrArg (fun z => Ideal.div z ((64 : ℝ) : EReal)) ?_
  refine gather_pick _ 1 rfl rfl rfl _ _ _ (ix2 ⟨64 * k.val + j.val, by omega⟩ 0) _ ?_ ?_ (by decide) ?_
  · intro k'
    funext b
    refine Fin.ext ?_
    fin_cases b
    · show (128 * a.val + (64 * k.val + j.val)) % 128 = 64 * k.val + j.val
      omega
    · exact Fin.val_eq_zero k'
  · pointwise
    rw [lane_word]
    refine congrArg (BitVec.ofNat 32) ?_
    show (64 * k.val + j.val) / 64 = k.val
    omega
  · intro b hb
    fin_cases b
    · rfl
    · exact absurd rfl hb
    · rfl
    · rfl

/-- The words of the table that repeats each feature eight times. -/
theorem rep_word : ∀ (a : Fin 8) (l : Fin 64), lit1 (S8x64.rowMajor (ix2 a l)) = if a.val = l.val / 8 then 0x3F800000#32 else 0#32 := by decide

/-- The table that repeats each feature eight times: row `a` is one on the eight columns `l` with `l / 8 = a`. -/
theorem v16_at (a : Fin 8) (l : Fin 64) :
    (V m c main_v16 : S1x8x64.Idx → EReal) (ix3 0 a l) = if a.val = l.val / 8 then (1 : EReal) else (0 : EReal) := by
  unfold V V0; simp only [List.flatten_cons, List.flatten_nil, List.append_nil]; unfold hostOps0
  after_reads_at
  rw [rep_word]
  split
  · exact Ideal.ofBits_one_f32
  · exact Ideal.ofBits_zero_f32

/-- The last layer's bias, one entry per type. -/
theorem v52_at (s : Fin 2) :
    (V m c main_v52 : S1x1x2.Idx → EReal) (ix3 0 0 s) = (m (c, Proc.devRef .tc main_arg12) : S2x1.Idx → EReal) (ix2 s 0) := by
  unfold V V0; simp only [List.flatten_cons, List.flatten_nil, List.append_nil]; unfold hostOps0
  after_reads_at

end Cert.KernelIdeal.Run

end
-- ==== Proof.Blocks.lean ====
/-
  What each window of the launch reads at a grid point, at an index of the array it reads: the three per-atom inputs
  move by 400 rows a point, every other input is read whole at every point.
-/
module

public import proofs.«01_k».proof.Proof.Run
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe

variable (m : (ℓ : Loc nD τ sig) → Buf (Elt Ideal) ℓ) (c : Dev nD)

/-- The row of the whole array that row `i` of point `t`'s block is. -/
def row (t : Fin cfg0.N) (i : Fin 400) : Fin 10000 :=
  ⟨400 * t.val + i.val, by have h : t.val < 25 := t.isLt; have := i.isLt; omega⟩

/-- The block indices of the windows that move: the grid point on the rows, zero on the columns. -/
theorem index_rows : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_11.index t 0 = t.val ∧ win0_11.index t 1 = 0) := by decide +kernel

/-- The block indices of the windows that stay: zero on every axis. -/
theorem index_whole : ∀ t : Fin cfg0.N, (win0_3.index t = fun _ => 0) ∧ (win0_4.index t = fun _ => 0)
    ∧ (win0_5.index t = fun _ => 0) ∧ (win0_6.index t = fun _ => 0) ∧ (win0_7.index t = fun _ => 0)
    ∧ (win0_8.index t = fun _ => 0) ∧ (win0_9.index t = fun _ => 0) ∧ (win0_10.index t = fun _ => 0)
    ∧ (win0_12.index t = fun _ => 0) := by decide +kernel

/-- The distances' block. -/
theorem iblk_0 (t : Fin cfg0.N) (i : Fin 400) (q : Fin 128) :
    (iblk m c 0 t : S400x128.Idx → EReal) (ix2 i q) = (V m c main_v2 : S10000x128.Idx → EReal) (ix2 (row t i) q) := by
  have e := (index_rows t).1
  unfold iblk
  rw [View.read_apply]
  show V m c main_v2 _ = V m c main_v2 _
  refine congrArg (V m c main_v2) (funext fun a => Fin.ext ?_)
  match a with
  | ⟨0, _⟩ => show win0_0.index t 0 * 400 + 1 * i.val = 400 * t.val + i.val; rw [e.1]; omega
  | ⟨1, _⟩ => show win0_0.index t 1 * 128 + 1 * q.val = q.val; rw [e.2]; omega

/-- The neighbour counts' block. -/
theorem iblk_1 (t : Fin cfg0.N) (i : Fin 400) (q : Fin 2) :
    (iblk m c 1 t : S400x2.Idx → BitVec 32) (ix2 i q) = (V m c main_v3 : S10000x2.Idx → BitVec 32) (ix2 (row t i) q) := by
  have e := (index_rows t).2.1
  unfold iblk
  rw [View.read_apply]
  show V m c main_v3 _ = V m c main_v3 _
  refine congrArg (V m c main_v3) (funext fun a => Fin.ext ?_)
  match a with
  | ⟨0, _⟩ => show win0_1.index t 0 * 400 + 1 * i.val = 400 * t.val + i.val; rw [e.1]; omega
  | ⟨1, _⟩ => show win0_1.index t 1 * 2 + 1 * q.val = q.val; rw [e.2]; omega

/-- The atom types' block. -/
theorem iblk_2 (t : Fin cfg0.N) (i : Fin 400) :
    (iblk m c 2 t : S400x1.Idx → BitVec 32) (ix2 i 0) = (V m c main_v4 : S10000x1.Idx → BitVec 32) (ix2 (row t i) 0) := by
  have e := (index_rows t).2.2.1
  unfold iblk
  rw [View.read_apply]
  show V m c main_v4 _ = V m c main_v4 _
  refine congrArg (V m c main_v4) (funext fun a => Fin.ext ?_)
  match a with
  | ⟨0, _⟩ => show win0_2.index t 0 * 400 + 1 * i.val = 400 * t.val + i.val; rw [e.1]; omega
  | ⟨1, _⟩ => show win0_2.index t 1 * 1 + 1 * 0 = 0; rw [e.2]

/-- The coefficients, read whole at every point. -/
theorem iblk_3 (t : Fin cfg0.N) : (iblk m c 3 t : S1536x16.Idx → EReal) = (V m c main_v15 : S1536x16.Idx → EReal) := by
  have e := (index_whole t).1
  funext j
  unfold iblk
  rw [View.read_apply]
  show V m c main_v15 _ = V m c main_v15 _
  refine congrArg (V m c main_v15) (funext fun a => Fin.ext ?_)
  match a with
  | ⟨0, _⟩ => show win0_3.index t 0 * 1536 + 1 * (j 0).val = (j 0).val; rw [congrFun e 0]; omega
  | ⟨1, _⟩ => show win0_3.index t 1 * 16 + 1 * (j 1).val = (j 1).val; rw [congrFun e 1]; omega

/-- The first layer, read whole at every point. -/
theorem iblk_4 (t : Fin cfg0.N) : (iblk m c 4 t : S1x64x128.Idx → EReal) = (V m c main_v22 : S1x64x128.Idx → EReal) := by
  have e := (index_whole t).2.1
  funext j
  unfold iblk
  rw [View.read_apply]
  show V m c main_v22 _ = V m c main_v22 _
  refine congrArg (V m c main_v22) (funext fun a => Fin.ext ?_)
  match a with
  | ⟨0, _⟩ => show win0_4.index t 0 * 1 + 1 * (j 0).val = (j 0).val; rw [congrFun e 0]; omega
  | ⟨1, _⟩ => show win0_4.index t 1 * 64 + 1 * (j 1).val = (j 1).val; rw [congrFun e 1]; omega
  | ⟨2, _⟩ => show win0_4.index t 2 * 128 + 1 * (j 2).val = (j 2).val; rw [congrFun e 2]; omega

/-- The first layer's bias, read whole at every point. -/
theorem iblk_5 (t : Fin cfg0.N) : (iblk m c 5 t : S1x1x128.Idx → EReal) = (V m c main_v28 : S1x1x128.Idx → EReal) := by
  have e := (index_whole t).2.2.1
  funext j
  unfold iblk
  rw [View.read_apply]
  show V m c main_v28 _ = V m c main_v28 _
  refine congrArg (V m c main_v28) (funext fun a => Fin.ext ?_)
  match a with
  | ⟨0, _⟩ => show win0_5.index t 0 * 1 + 1 * (j 0).val = (j 0).val; rw [congrFun e 0]; omega
  | ⟨1, _⟩ => show win0_5.index t 1 * 1 + 1 * (j 1).val = (j 1).val; rw [congrFun e 1]; omega
  | ⟨2, _⟩ => show win0_5.index t 2 * 128 + 1 * (j 2).val = (j 2).val; rw [congrFun e 2]; omega

/-- The second layer, read whole at every point. -/
theorem iblk_6 (t : Fin cfg0.N) : (iblk m c 6 t : S1x128x128.Idx → EReal) = (V m c main_v39 : S1x128x128.Idx → EReal) := by
  have e := (index_whole t).2.2.2.1
  funext j
  unfold iblk
  rw [View.read_apply]
  show V m c main_v39 _ = V m c main_v39 _
  refine congrArg (V m c main_v39) (funext fun a => Fin.ext ?_)
  match a with
  | ⟨0, _⟩ => show win0_6.index t 0 * 1 + 1 * (j 0).val = (j 0).val; rw [congrFun e 0]; omega
  | ⟨1, _⟩ => show win0_6.index t 1 * 128 + 1 * (j 1).val = (j 1).val; rw [congrFun e 1]; omega
  | ⟨2, _⟩ => show win0_6.index t 2 * 128 + 1 * (j 2).val = (j 2).val; rw [congrFun e 2]; omega

/-- The second layer's bias, read whole at every point. -/
theorem iblk_7 (t : Fin cfg0.N) : (iblk m c 7 t : S1x1x128.Idx → EReal) = (V m c main_v45 : S1x1x128.Idx → EReal) := by
  have e := (index_whole t).2.2.2.2.1
  funext j
  unfold iblk
  rw [View.read_apply]
  show V m c main_v45 _ = V m c main_v45 _
  refine congrArg (V m c main_v45) (funext fun a => Fin.ext ?_)
  match a with
  | ⟨0, _⟩ => show win0_7.index t 0 * 1 + 1 * (j 0).val = (j 0).val; rw [congrFun e 0]; omega
  | ⟨1, _⟩ => show win0_7.index t 1 * 1 + 1 * (j 1).val = (j 1).val; rw [congrFun e 1]; omega
  | ⟨2, _⟩ => show win0_7.index t 2 * 128 + 1 * (j 2).val = (j 2).val; rw [congrFun e 2]; omega

/-- The last layer, read whole at every point. -/
theorem iblk_8 (t : Fin cfg0.N) : (iblk m c 8 t : S1x128x1.Idx → EReal) = (V m c main_v51 : S1x128x1.Idx → EReal) := by
  have e := (index_whole t).2.2.2.2.2.1
  funext j
  unfold iblk
  rw [View.read_apply]
  show V m c main_v51 _ = V m c main_v51 _
  refine congrArg (V m c main_v51) (funext fun a => Fin.ext ?_)
  match a with
  | ⟨0, _⟩ => show win0_8.index t 0 * 1 + 1 * (j 0).val = (j 0).val; rw [congrFun e 0]; omega
  | ⟨1, _⟩ => show win0_8.index t 1 * 128 + 1 * (j 1).val = (j 1).val; rw [congrFun e 1]; omega
  | ⟨2, _⟩ => show win0_8.index t 2 * 1 + 1 * (j 2).val = (j 2).val; rw [congrFun e 2]; omega

/-- The last layer's bias, read whole at every point. -/
theorem iblk_9 (t : Fin cfg0.N) : (iblk m c 9 t : S1x1x2.Idx → EReal) = (V m c main_v52 : S1x1x2.Idx → EReal) := by
  have e := (index_whole t).2.2.2.2.2.2.1
  funext j
  unfold iblk
  rw [View.read_apply]
  show V m c main_v52 _ = V m c main_v52 _
  refine congrArg (V m c main_v52) (funext fun a => Fin.ext ?_)
  match a with
  | ⟨0, _⟩ => show win0_9.index t 0 * 1 + 1 * (j 0).val = (j 0).val; rw [congrFun e 0]; omega
  | ⟨1, _⟩ => show win0_9.index t 1 * 1 + 1 * (j 1).val = (j 1).val; rw [congrFun e 1]; omega
  | ⟨2, _⟩ => show win0_9.index t 2 * 2 + 1 * (j 2).val = (j 2).val; rw [congrFun e 2]; omega

/-- The repeating table, read whole at every point. -/
theorem iblk_10 (t : Fin cfg0.N) : (iblk m c 10 t : S1x8x64.Idx → EReal) = (V m c main_v16 : S1x8x64.Idx → EReal) := by
  have e := (index_whole t).2.2.2.2.2.2.2.1
  funext j
  unfold iblk
  rw [View.read_apply]
  show V m c main_v16 _ = V m c main_v16 _
  refine congrArg (V m c main_v16) (funext fun a => Fin.ext ?_)
  match a with
  | ⟨0, _⟩ => show win0_10.index t 0 * 1 + 1 * (j 0).val = (j 0).val; rw [congrFun e 0]; omega
  | ⟨1, _⟩ => show win0_10.index t 1 * 8 + 1 * (j 1).val = (j 1).val; rw [congrFun e 1]; omega
  | ⟨2, _⟩ => show win0_10.index t 2 * 64 + 1 * (j 2).val = (j 2).val; rw [congrFun e 2]; omega

end Cert.KernelIdeal.Run

end
-- ==== Proof.Energies.lean ====
/-
  What each grid point of the launch leaves in the two outputs' buffers, in terms of the launch's arguments: the block of
  400 atom energies, and the running total of all the blocks so far.
-/
module

public import proofs.«01_k».proof.Proof.BlockValue
public import proofs.«01_k».proof.Proof.HostValue
public import proofs.«01_k».proof.Proof.Blocks

@[expose] public section

set_option maxRecDepth 16384

noncomputable section

namespace Cert.KernelIdeal.Run

open Cert.KernelIdeal Cert.KernelIdeal.Gen Cert.Model
open Idealize.ShloMosaic Idealize.ShloMosaic.TcCoe

variable (m : (ℓ : Loc nD τ sig) → Buf (Elt Ideal) ℓ) (c : Dev nD)

/-- The energy of atom `n` taken to be of type `t`, from the launch's arguments. -/
def energyAt (t : Fin 2) (n : Fin 10000) : EReal :=
  atomEnergy Ideal.tanh
    (fun k q a => (m (c, Proc.devRef .tc main_arg6) : S2x2x8x12.Idx → EReal) (ix4 t k q a))
    (fun i h => (m (c, Proc.devRef .tc main_arg7) : S2x64x64.Idx → EReal) (ix3 t i h))
    (fun h => (m (c, Proc.devRef .tc main_arg8) : S2x64.Idx → EReal) (ix2 t h))
    (fun i h => (m (c, Proc.devRef .tc main_arg9) : S2x64x64.Idx → EReal) (ix3 t i h))
    (fun h => (m (c, Proc.devRef .tc main_arg10) : S2x64.Idx → EReal) (ix2 t h))
    (fun h => (m (c, Proc.devRef .tc main_arg11) : S2x64x1.Idx → EReal) (ix3 t h 0))
    ((m (c, Proc.devRef .tc main_arg12) : S2x1.Idx → EReal) (ix2 t 0))
    (fun k j => (m (c, Proc.devRef .tc main_arg3) : S1x10000x128x4.Idx → EReal) (ix4 0 n (lane k j) 0))
    (fun k => (m (c, Proc.devRef .tc main_arg4) : S1x10000x2.Idx → BitVec 32) (ix3 0 n k))

/-- The types the launch is given are those of `T`. -/
def HasTypes (T : Fin 10000 → Fin 2) : Prop :=
  ∀ n, (m (c, Proc.devRef .tc main_arg1) : S10000.Idx → BitVec 32) (ix1 n) = BitVec.ofNat 32 (T n).val

/-- Row `i` of the block of point `t` is the energy of the atom it stands for. -/
theorem eiAt_apply (T : Fin 10000 → Fin 2) (hT : HasTypes m c T) (t : Fin cfg0.N) (i : Fin 400) :
    (eiAt m c t : S400x1.Idx → EReal) (ix2 i 0) = energyAt m c (T (row t i)) (row t i) := by
  unfold eiAt
  refine (eiVal_apply _ _ _ _ _ _ _ _ _ _ _ i (T (row t i)) ?_
    (fun s k q a => (m (c, Proc.devRef .tc main_arg6) : S2x2x8x12.Idx → EReal) (ix4 s k q a))
    (fun s i h => (m (c, Proc.devRef .tc main_arg7) : S2x64x64.Idx → EReal) (ix3 s i h))
    (fun s h => (m (c, Proc.devRef .tc main_arg8) : S2x64.Idx → EReal) (ix2 s h))
    (fun s i h => (m (c, Proc.devRef .tc main_arg9) : S2x64x64.Idx → EReal) (ix3 s i h))
    (fun s h => (m (c, Proc.devRef .tc main_arg10) : S2x64.Idx → EReal) (ix2 s h))
    (fun s h => (m (c, Proc.devRef .tc main_arg11) : S2x64x1.Idx → EReal) (ix3 s h 0))
    (fun s => (m (c, Proc.devRef .tc main_arg12) : S2x1.Idx → EReal) (ix2 s 0))
    (fun a k j s q => (congrFun (iblk_3 m c t) _).trans (v15_at m c a k j s q _ _))
    (fun a l => (congrFun (iblk_10 m c t) _).trans (v16_at m c a l))
    (fun l s h => (congrFun (iblk_4 m c t) _).trans (v22_at m c l s h))
    (fun s h => (congrFun (iblk_5 m c t) _).trans (v28_at m c s h))
    (fun s h s' h' => (congrFun (iblk_6 m c t) _).trans (v39_at m c s h s' h'))
    (fun s h => (congrFun (iblk_7 m c t) _).trans (v45_at m c s h))
    (fun s h => (congrFun (iblk_8 m c t) _).trans (v51_at m c s h))
    (fun s => (congrFun (iblk_9 m c t) _).trans (v52_at m c s))).trans ?_
  · exact ((iblk_2 m c t i).trans (v4_at m c (row t i))).trans (hT _)
  · unfold energyAt
    have e0 : (fun (k : Fin 2) (j : Fin 64) => (iblk m c 0 t : S400x128.Idx → EReal) (ix2 i (lane k j)))
        = fun k j => (m (c, Proc.devRef .tc main_arg3) : S1x10000x128x4.Idx → EReal) (ix4 0 (row t i) (lane k j) 0) :=
      funext fun k => funext fun j => (iblk_0 m c t i (lane k j)).trans (v2_at m c _ _)
    have e1 : (fun (k : Fin 2) => (iblk m c 1 t : S400x2.Idx → BitVec 32) (ix2 i k))
        = fun k => (m (c, Proc.devRef .tc main_arg4) : S1x10000x2.Idx → BitVec 32) (ix3 0 (row t i) k) :=
      funext fun k => (iblk_1 m c t i k).trans (v3_at m c _ _)
    exact congrArg₂ (atomEnergy Ideal.tanh _ _ _ _ _ _ _) e0 e1

/-- The total's cell after the body: what it held (zero at the point whose coordinate word is zero) plus the block's energies. -/
theorem etVal_apply (a : BitVec 32) (x0 : Vec Ideal S400x128 .f32) (x1 : Vec Ideal S400x2 .i32) (x2 : Vec Ideal S400x1 .i32)
    (x3 : Vec Ideal S1536x16 .f32) (x4 : Vec Ideal S1x64x128 .f32) (x5 : Vec Ideal S1x1x128 .f32) (x6 : Vec Ideal S1x128x128 .f32)
    (x7 : Vec Ideal S1x1x128 .f32) (x8 : Vec Ideal S1x128x1 .f32) (x9 : Vec Ideal S1x1x2 .f32) (x10 : Vec Ideal S1x8x64 .f32)
    (y : Vec Ideal S1x1 .f32) :
    etVal a x0 x1 x2 x3 x4 x5 x6 x7 x8 x9 x10 y (ix2 0 0)
      = Scalar.select (Scalar.cmpi .eq a 0#32) (0 : EReal) (y (ix2 0 0))
        + ∑ i : Fin 400, (eiVal x0 x1 x2 x3 x4 x5 x6 x7 x8 x9 x10 (ix2 i 0) : EReal) := by
  unfold etVal eiVal
  generalize netOut x0 x1 x2 x3 x4 x5 x6 x7 x8 x10 = g
  generalize k0_pay5 x2 = b
  generalize bias0 x9 = u
  generalize bias1 x9 = w
  pointwise [k0_pay2, k0_pay1]
  simp only [Finset.univ_unique, Finset.sum_singleton]

/-- The word of a grid point is zero at the first point only. -/
theorem word_first (n : ℕ) (h : n + 1 < cfg0.N) (y : EReal) :
    Scalar.select (Scalar.cmpi .eq (BitVec.ofNat 32 (n + 1)) 0#32) (0 : EReal) y = y := by
  have h : n + 1 < 25 := h
  have e : ∀ k : Fin 25, k.val ≠ 0 → Scalar.cmpi .eq (BitVec.ofNat 32 k.val) 0#32 = 0#1 := by decide
  rw [e ⟨n + 1, h⟩ (by simp)]
  rfl

/-- THE RUNNING TOTAL: after point `n` the cell holds the sum of the energies of the blocks `0 … n`. -/
theorem etAt_apply : ∀ (n : ℕ) (h : n < cfg0.N), (etAt m c n h : S1x1.Idx → EReal) (ix2 0 0)
    = ∑ p : Fin (n + 1), ∑ i : Fin 400, (eiAt m c ⟨p.val, by have := p.isLt; omega⟩ : S400x1.Idx → EReal) (ix2 i 0)
  | 0, h => by
    unfold etAt etStep
    rw [etVal_apply, coord_eq, Fin.sum_univ_one]
    exact zero_add _
  | n + 1, h => by
    unfold etAt etStep
    rw [etVal_apply, coord_eq, word_first n h, etAt_apply n]
    exact (Fin.sum_univ_castSucc (n := n + 1) fun p =>
      ∑ i : Fin 400, (eiAt m c ⟨p.val, by have := p.isLt; omega⟩ : S400x1.Idx → EReal) (ix2 i 0)).symm

/-- The total after the last point is the sum of all the atoms' energies. -/
theorem etAt_last (T : Fin 10000 → Fin 2) (hT : HasTypes m c T) (h : 24 < cfg0.N) :
    (etAt m c 24 h : S1x1.Idx → EReal) (ix2 0 0) = ∑ n : Fin 10000, energyAt m c (T n) n := by
  rw [etAt_apply, sum_groups 25 400 rfl fun n => energyAt m c (T n) n]
  exact Finset.sum_congr rfl fun p _ => Finset.sum_congr rfl fun i _ => eiAt_apply m c T hT ⟨p.val, p.isLt⟩ i

end Cert.KernelIdeal.Run

end
-- ==== Proof.Arrays.lean ====
/-
  What the launch leaves in its two result arrays: the atoms' energies, 25 blocks of 400 side by side, and their total.
-/
module

public import proofs.«01_k».proof.Proof.Energies

@[expose] public section

set_option maxRecDepth 16384

noncomputable section

namespace Cert.KernelIdeal.Run

open Cert.KernelIdeal Cert.KernelIdeal.Gen Cert.Model
open Idealize.ShloMosaic Idealize.ShloMosaic.TcCoe Idealize.SL.Sem

variable (m : (ℓ : Loc nD τ sig) → Buf (Elt Ideal) ℓ) (ρ : Dev nD → PrngReg) (c : Dev nD)

/-- The column of the atoms' energies. -/
def energyCol (T : Fin 10000 → Fin 2) : S10000x1.Idx → EReal := fun j => energyAt m c (T (j 0)) (j 0)

/-- The energies as a row, the launch's second result. -/
def energyRow (T : Fin 10000 → Fin 2) : S1x10000.Idx → EReal := fun j => energyAt m c (T (j 1)) (j 1)

/-- The total of the energies, the launch's first result. -/
def energySum (T : Fin 10000 → Fin 2) : S1x1.Idx → EReal := fun _ => ∑ n : Fin 10000, energyAt m c (T n) n

/-- The column of energies after the run. -/
theorem arr_ei (T : Fin 10000 → Fin 2) (hT : HasTypes m c T) : (dats m 0 c).arrAt 11 cfg0.N = energyCol m c T := by
  refine (dats m 0 c).arrAt_eq_of_covers 11 _ (by decide +kernel) fun t hf y => ?_
  rw [after_11]
  obtain ⟨i, k, rfl⟩ : ∃ (i : Fin 400) (k : Fin 1), y = (ix2 i k : S400x1.Idx) :=
    ⟨y 0, y 1, funext fun a => by match a with | ⟨0, _⟩ => rfl | ⟨1, _⟩ => rfl⟩
  obtain rfl : k = 0 := Subsingleton.elim _ _
  have e := (index_rows t).2.2.2
  refine (eiAt_apply m c T hT t i).trans ?_
  have er : ((cfg0.win 11).blk t).view.emb (ix2 i 0 : S400x1.Idx) = (ix2 (row t i) 0 : S10000x1.Idx) :=
    funext fun a => Fin.ext <| by
      match a with
      | ⟨0, _⟩ => show win0_11.index t 0 * 400 + 1 * i.val = 400 * t.val + i.val; rw [e.1]; omega
      | ⟨1, _⟩ => show win0_11.index t 1 * 1 + 1 * 0 = 0; rw [e.2]
  rw [er]
  rfl

/-- The total after the run. -/
theorem arr_et (T : Fin 10000 → Fin 2) (hT : HasTypes m c T) : (dats m 0 c).arrAt 12 cfg0.N = energySum m c T := by
  refine (dats m 0 c).arrAt_eq_of_covers 12 _ (by decide +kernel) fun t hf y => ?_
  rw [after_12]
  have ht : t.val = 24 := by
    have h := (flush0_12 t).mp hf
    have h' : t.val < 25 := t.isLt
    omega
  obtain ⟨tv, tlt⟩ := t
  obtain rfl : tv = 24 := ht
  obtain ⟨i, k, rfl⟩ : ∃ (i k : Fin 1), y = (ix2 i k : S1x1.Idx) :=
    ⟨y 0, y 1, funext fun a => by match a with | ⟨0, _⟩ => rfl | ⟨1, _⟩ => rfl⟩
  obtain rfl : i = 0 := Subsingleton.elim _ _
  obtain rfl : k = 0 := Subsingleton.elim _ _
  exact etAt_last m c T hT tlt

/-- The energies' row after the operation that follows the launch. -/
theorem tail_row (T : Fin 10000 → Fin 2) (hT : HasTypes m c T) :
    Pipeline.afterTail₀ cfgs (dats m) 0 (V0 m) [hostOps1] c main_v54 = energyRow m c T := by
  unfold Pipeline.afterTail₀
  simp only [List.flatten_cons, List.flatten_nil, List.append_nil]
  unfold hostOps1
  have e : Pipeline.withArrays spec0 c (V0 m c) (fun w => (dats m 0 c).arrAt w cfg0.N) (Proc.devRef .tc main_v53_0) = energyCol m c T :=
    (Pipeline.withArrays_arr spec0 (by decide) c (V0 m c) (fun w => (dats m 0 c).arrAt w cfg0.N) 11).trans (arr_ei m c T hT)
  funext j
  obtain ⟨k, n, rfl⟩ : ∃ (k : Fin 1) (n : Fin 10000), j = (ix2 k n : S1x10000.Idx) :=
    ⟨j 0, j 1, funext fun a => by match a with | ⟨0, _⟩ => rfl | ⟨1, _⟩ => rfl⟩
  obtain rfl : k = 0 := Subsingleton.elim _ _
  after_reads_at
  exact congrFun e (ix2 n 0)

/-- THE RUN: it ends with the total and the row of energies in the two results. -/
theorem run_values (T : Dev nD → Fin 10000 → Fin 2) (hT : ∀ c, HasTypes m c (T c)) :
    θ_run defs (onTc (τ := τ) (main (F := Ideal))) ⟨m, fun _ => 0, ρ⟩ (fun r => ∀ c : Dev nD,
      r.2.mem ((c.tc : Thread nD τ).loc main_v53_1) = energySum m c (T c)
      ∧ r.2.mem ((c.tc : Thread nD τ).loc main_v54) = energyRow m c (T c)) :=
  (θ_run defs _ _).mono (fun _ h c => ⟨((h.1 c).1 12).trans (arr_et m c (T c) (hT c)),
    ((h.1 c).2 main_v54 (Pipeline.mem_restRefs_of main_v54 (by decide) (by decide))).trans (tail_row m c (T c) (hT c))⟩)
    (run_main_quiescent m ρ)

end Cert.KernelIdeal.Run

end
-- ==== Proof.RefTake.lean ====
/-
  The reference takes, for every atom, the weights of the atom's type out of each parameter array (a gather along the
  leading axis, kept where the type is in range). Read at an index, for a type in range: the parameter array at that type.
-/
module

public import proofs.«01_k».proof.Proof.Gather
public import proofs.«01_k».proof.Proof.Words
public import proofs.«01_k».proof.Proof.Gen.ReferenceIdeal.Read

@[expose] public section

set_option maxRecDepth 16384

noncomputable section

namespace Cert.ReferenceIdeal.Read

open Cert.ReferenceIdeal Cert.ReferenceIdeal.Gen Cert.Model
open Idealize.ShloMosaic Idealize.ShloMosaic.TcCoe

variable (x1 : S10000.Idx → BitVec 32) (n : Fin 10000) (t : Fin 2)

/-- A type in range is not moved by the wrap of negative indices. -/
theorem wrap_word : ∀ t : Fin 2, Scalar.select (IntOp.cmpi .slt (BitVec.ofNat 32 t.val) 0#32)
    (IntOp.addi (BitVec.ofNat 32 t.val) 2#32) (BitVec.ofNat 32 t.val) = BitVec.ofNat 32 t.val := by decide

/-- A type in range passes the test for it. -/
theorem range_word : ∀ t : Fin 2, IntOp.andi (IntOp.cmpi .sge (BitVec.ofNat 32 t.val) 0#32)
    (IntOp.cmpi .sle (BitVec.ofNat 32 t.val) 1#32) = 1#1 := by decide

/-- The start index of atom `n` is its type. -/
theorem start_at (ht : x1 (ix1 n) = BitVec.ofNat 32 t.val) :
    val_main_call2_v5 (F := Ideal) x1 (ix2 n 0) = BitVec.ofNat 32 t.val := by
  pointwise [val_main_call2_v5, val_main_call2_v4, val_main_call2_v3, val_main_call2_v2, val_main_call2_v1,
    val_main_call2_v0, val_main_call2_c, val_main_call2_c_0]
  rw [ht, wrap_word]

/-- The mask of atom `n` is one. -/
theorem mask_at (ht : x1 (ix1 n) = BitVec.ofNat 32 t.val) : val_main_call2_v12 (F := Ideal) x1 (ix1 n) = 1#1 := by
  have h : val_main_call2_v11 (F := Ideal) x1 (ix2 n 0) = 1#1 := by
    pointwise [val_main_call2_v11, val_main_call2_v10, val_main_call2_v9, val_main_call2_v8, val_main_call2_v7,
      val_main_call2_v6, val_main_call2_c_1, val_main_call2_c_2]
    rw [start_at x1 n t ht, range_word]
  unfold val_main_call2_v12
  pointwise [val_main_call2_c_3]
  rw [Finset.univ_unique, Finset.fold_singleton]
  show IntOp.andi (val_main_call2_v11 (F := Ideal) x1 (ix2 n 0)) 1#1 = 1#1
  rw [h]
  rfl

/-- The coefficients, taken for atom `n` of type `t`. -/
theorem take_6 (ht : x1 (ix1 n) = BitVec.ofNat 32 t.val) (x6 : S2x2x8x12.Idx → EReal) (k : Fin 2) (q : Fin 8) (a : Fin 12) :
    val_main_v89 (F := Ideal) x1 x6 (ix4 n k q a) = x6 (ix4 t k q a) := by
  have hm : val_main_call2_v14 (F := Ideal) x1 (ix4 n k q a) = 1#1 := by
    show broadcastInDim S10000x2x8x12 ![0] bcast_S10000_S10000x2x8x12_0 (val_main_call2_v12 (F := Ideal) x1) (ix4 n k q a) = 1#1
    pointwise
    exact mask_at x1 n t ht
  rw [val_main_v89_apply, hm]
  show val_main_call2_v13 (F := Ideal) x1 x6 (ix4 n k q a) = _
  unfold val_main_call2_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl
    · rfl
    · rfl

/-- The first layer, taken for atom `n` of type `t`. -/
theorem take_7 (ht : x1 (ix1 n) = BitVec.ofNat 32 t.val) (x7 : S2x64x64.Idx → EReal) (i : Fin 64) (h : Fin 64) :
    val_main_v104 (F := Ideal) x1 x7 (ix3 n i h) = x7 (ix3 t i h) := by
  have hm : val_main_call3_v14 (F := Ideal) x1 (ix3 n i h) = 1#1 := by
    show broadcastInDim S10000x64x64 ![0] bcast_S10000_S10000x64x64_0 (val_main_call2_v12 (F := Ideal) x1) (ix3 n i h) = 1#1
    pointwise
    exact mask_at x1 n t ht
  rw [val_main_v104_apply, hm]
  show val_main_call3_v13 (F := Ideal) x1 x7 (ix3 n i h) = _
  unfold val_main_call3_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl
    · rfl

/-- The first layer's bias, taken for atom `n` of type `t`. -/
theorem take_8 (ht : x1 (ix1 n) = BitVec.ofNat 32 t.val) (x8 : S2x64.Idx → EReal) (h : Fin 64) :
    val_main_v107 (F := Ideal) x1 x8 (ix2 n h) = x8 (ix2 t h) := by
  have hm : val_main_call4_v14 (F := Ideal) x1 (ix2 n h) = 1#1 := by
    show broadcastInDim S10000x64 ![0] bcast_S10000_S10000x64_0 (val_main_call2_v12 (F := Ideal) x1) (ix2 n h) = 1#1
    pointwise
    exact mask_at x1 n t ht
  rw [val_main_v107_apply, hm]
  show val_main_call4_v13 (F := Ideal) x1 x8 (ix2 n h) = _
  unfold val_main_call4_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl

/-- The second layer, taken for atom `n` of type `t`. -/
theorem take_9 (ht : x1 (ix1 n) = BitVec.ofNat 32 t.val) (x9 : S2x64x64.Idx → EReal) (i : Fin 64) (h : Fin 64) :
    val_main_v111 (F := Ideal) x1 x9 (ix3 n i h) = x9 (ix3 t i h) := by
  have hm : val_main_call5_v14 (F := Ideal) x1 (ix3 n i h) = 1#1 := by
    show broadcastInDim S10000x64x64 ![0] bcast_S10000_S10000x64x64_0 (val_main_call2_v12 (F := Ideal) x1) (ix3 n i h) = 1#1
    pointwise
    exact mask_at x1 n t ht
  rw [val_main_v111_apply, hm]
  show val_main_call5_v13 (F := Ideal) x1 x9 (ix3 n i h) = _
  unfold val_main_call5_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl
    · rfl

/-- The second layer's bias, taken for atom `n` of type `t`. -/
theorem take_10 (ht : x1 (ix1 n) = BitVec.ofNat 32 t.val) (x10 : S2x64.Idx → EReal) (h : Fin 64) :
    val_main_v114 (F := Ideal) x1 x10 (ix2 n h) = x10 (ix2 t h) := by
  have hm : val_main_call6_v14 (F := Ideal) x1 (ix2 n h) = 1#1 := by
    show broadcastInDim S10000x64 ![0] bcast_S10000_S10000x64_0 (val_main_call2_v12 (F := Ideal) x1) (ix2 n h) = 1#1
    pointwise
    exact mask_at x1 n t ht
  rw [val_main_v114_apply, hm]
  show val_main_call6_v13 (F := Ideal) x1 x10 (ix2 n h) = _
  unfold val_main_call6_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl

/-- The last layer, taken for atom `n` of type `t`. -/
theorem take_11 (ht : x1 (ix1 n) = BitVec.ofNat 32 t.val) (x11 : S2x64x1.Idx → EReal) (h : Fin 64) (o : Fin 1) :
    val_main_v118 (F := Ideal) x1 x11 (ix3 n h o) = x11 (ix3 t h o) := by
  have hm : val_main_call7_v14 (F := Ideal) x1 (ix3 n h o) = 1#1 := by
    show broadcastInDim S10000x64x1 ![0] bcast_S10000_S10000x64x1_0 (val_main_call2_v12 (F := Ideal) x1) (ix3 n h o) = 1#1
    pointwise
    exact mask_at x1 n t ht
  rw [val_main_v118_apply, hm]
  show val_main_call7_v13 (F := Ideal) x1 x11 (ix3 n h o) = _
  unfold val_main_call7_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl
    · rfl

/-- The last layer's bias, taken for atom `n` of type `t`. -/
theorem take_12 (ht : x1 (ix1 n) = BitVec.ofNat 32 t.val) (x12 : S2x1.Idx → EReal) (o : Fin 1) :
    val_main_v121 (F := Ideal) x1 x12 (ix2 n o) = x12 (ix2 t o) := by
  have hm : val_main_call8_v14 (F := Ideal) x1 (ix2 n o) = 1#1 := by
    show broadcastInDim S10000x1 ![0] bcast_S10000_S10000x1_0 (val_main_call2_v12 (F := Ideal) x1) (ix2 n o) = 1#1
    pointwise
    exact mask_at x1 n t ht
  rw [val_main_v121_apply, hm]
  show val_main_call8_v13 (F := Ideal) x1 x12 (ix2 n o) = _
  unfold val_main_call8_v13
  refine gather_pick _ 0 rfl rfl rfl _ _ _ (ix2 n 0) _ ?_ ?_ (by decide) ?_
  · intro k'
    funext b
    refine Fin.ext ?_
    fin_cases b
    · rfl
    · exact Fin.val_eq_zero k'
  · exact start_at x1 n t ht
  · intro b hb
    fin_cases b
    · exact absurd rfl hb
    · rfl

end Cert.ReferenceIdeal.Read

end
-- ==== Proof.RefBasis.lean ====
/-
  The reference, one neighbour pair at an index: the weight of the pair, and the twelve Chebyshev polynomials at its
  place between the atoms.
-/
module

public import proofs.«01_k».proof.Proof.Words
public import proofs.«01_k».proof.Proof.Gen.ReferenceIdeal.Read
public import Idealize.ShloMosaic.Lib.Pointwise

@[expose] public section

set_option maxRecDepth 16384

noncomputable section

namespace Cert.ReferenceIdeal.Read

open Cert.ReferenceIdeal Cert.ReferenceIdeal.Gen Cert.Model
open Idealize.ShloMosaic Idealize.ShloMosaic.TcCoe

variable (x3 : S1x10000x128x4.Idx → EReal) (x4 : S1x10000x2.Idx → BitVec 32)

/-- The stored distance of neighbour `j` of type `k` of atom `n`. -/
abbrev dist (n : Fin 10000) (k : Fin 2) (j : Fin 64) : EReal := x3 (ix4 0 n (lane k j) 0)

variable (n : Fin 10000) (k : Fin 2) (j : Fin 64)

/-- The distance in its own unit. -/
theorem v4_at : val_main_v4 (F := Ideal) x3 (ix4 0 n k j) = dist x3 n k j * ((6 : ℝ) : EReal) := by
  pointwise [val_main_v4, val_main_v3, val_main_v2, val_main_v1, val_main_v0, val_main_cst]
  rw [word_six]
  have e : (⟨k.val * 64 + j.val, by omega⟩ : Fin 128) = lane k j := Fin.ext (by show k.val * 64 + j.val = 64 * k.val + j.val; omega)
  rw [e]

/-- The place in the cutoff. -/
theorem v9_at : val_main_v9 (F := Ideal) x3 (ix4 0 n k j) = ((cutPos (dist x3 n k j) : ℝ) : EReal) := by
  pointwise [val_main_v9, val_main_v8, val_main_v7, val_main_v6, val_main_v5, val_main_call0_v0, val_main_call0_v1,
    val_main_call0_v2, val_main_call0_v3, val_main_call0_v4, val_main_cst_0, val_main_cst_1, val_main_cst_2, val_main_cst_3]
  rw [v4_at, word_half, word_five_half]
  show min (Ideal.ofBits .f32 0x3F800000#32) (max (Ideal.ofBits .f32 0x00000000#32) _) = _
  rw [Ideal.ofBits_one_f32, Ideal.ofBits_zero_f32]
  exact cutPos_eq _

/-- The cutoff's value. -/
theorem v19_at : val_main_v19 (F := Ideal) x3 (ix4 0 n k j) = ((smooth (cutPos (dist x3 n k j)) : ℝ) : EReal) := by
  pointwise [val_main_v19, val_main_v18, val_main_v17, val_main_v16, val_main_v15, val_main_v14, val_main_v13, val_main_v12,
    val_main_v11, val_main_v10, val_main_cst_4, val_main_cst_5, val_main_cst_6]
  rw [v9_at, word_three, word_two]
  exact smooth_powers _

/-- The weight of the pair. -/
theorem v27_at : val_main_v27 (F := Ideal) x3 x4 (ix4 0 n k j)
    = ((weight (dist x3 n k j) ((BitVec.ofNat 32 j.val).slt (x4 (ix3 0 n k))) : ℝ) : EReal) := by
  pointwise [val_main_v27, val_main_v26, val_main_v25, val_main_v24, val_main_v23, val_main_v22, val_main_v21, val_main_v20]
  rw [v19_at]
  show _ * ((((BitVec.ofBool ((BitVec.ofNat 32 j.val).slt (x4 (ix3 0 n k)))).toNat : ℝ)) : EReal) = _
  unfold weight
  rw [← EReal.coe_mul]
  cases (BitVec.ofNat 32 j.val).slt (x4 (ix3 0 n k)) <;> simp

/-- The argument of the polynomials. -/
theorem v34_at : val_main_v34 (F := Ideal) x3 (ix4 0 n k j) = ((chebPos (dist x3 n k j) : ℝ) : EReal) := by
  pointwise [val_main_v34, val_main_v33, val_main_v32, val_main_v31, val_main_v30, val_main_v29, val_main_v28,
    val_main_call1_v0, val_main_call1_v1, val_main_call1_v2, val_main_call1_v3, val_main_call1_v4, val_main_cst_7,
    val_main_cst_8, val_main_cst_9, val_main_cst_10, val_main_cst_11]
  rw [v4_at, word_six, word_two]
  show min (Ideal.ofBits .f32 0x3F800000#32) (max (Ideal.ofBits .f32 0xBF800000#32) _) = _
  rw [Ideal.ofBits_one_f32, word_neg_one]
  exact chebPos_eq _

/-- The polynomial of degree 0, -/
theorem v35_at : val_main_v35 (F := Ideal) (ix4 0 n k j) = ((cheb 0 (chebPos (dist x3 n k j)) : ℝ) : EReal) := by
  pointwise [val_main_v35, val_main_cst_12]
  exact EReal.coe_one.symm

/-- of degree 2, -/
theorem v39_at : val_main_v39 (F := Ideal) x3 (ix4 0 n k j) = ((cheb 2 (chebPos (dist x3 n k j)) : ℝ) : EReal) := by
  pointwise [val_main_v39, val_main_v38, val_main_v37, val_main_v36, val_main_cst_13]
  rw [v34_at, v35_at x3, word_two]
  exact cheb_step 0 _

/-- of degree 3, -/
theorem v43_at : val_main_v43 (F := Ideal) x3 (ix4 0 n k j) = ((cheb 3 (chebPos (dist x3 n k j)) : ℝ) : EReal) := by
  pointwise [val_main_v43, val_main_v42, val_main_v41, val_main_v40, val_main_cst_14]
  rw [v34_at, v39_at, word_two]
  exact cheb_step 1 _

/-- of degree 4, -/
theorem v47_at : val_main_v47 (F := Ideal) x3 (ix4 0 n k j) = ((cheb 4 (chebPos (dist x3 n k j)) : ℝ) : EReal) := by
  pointwise [val_main_v47, val_main_v46, val_main_v45, val_main_v44, val_main_cst_15]
  rw [v34_at, v43_at, v39_at, word_two]
  exact cheb_step 2 _

/-- of degree 5, -/
theorem v51_at : val_main_v51 (F := Ideal) x3 (ix4 0 n k j) = ((cheb 5 (chebPos (dist x3 n k j)) : ℝ) : EReal) := by
  pointwise [val_main_v51, val_main_v50, val_main_v49, val_main_v48, val_main_cst_16]
  rw [v34_at, v47_at, v43_at, word_two]
  exact cheb_step 3 _

/-- of degree 6, -/
theorem v55_at : val_main_v55 (F := Ideal) x3 (ix4 0 n k j) = ((cheb 6 (chebPos (dist x3 n k j)) : ℝ) : EReal) := by
  pointwise [val_main_v55, val_main_v54, val_main_v53, val_main_v52, val_main_cst_17]
  rw [v34_at, v51_at, v47_at, word_two]
  exact cheb_step 4 _

/-- of degree 7, -/
theorem v59_at : val_main_v59 (F := Ideal) x3 (ix4 0 n k j) = ((cheb 7 (chebPos (dist x3 n k j)) : ℝ) : EReal) := by
  pointwise [val_main_v59, val_main_v58, val_main_v57, val_main_v56, val_main_cst_18]
  rw [v34_at, v55_at, v51_at, word_two]
  exact cheb_step 5 _

/-- of degree 8, -/
theorem v63_at : val_main_v63 (F := Ideal) x3 (ix4 0 n k j) = ((cheb 8 (chebPos (dist x3 n k j)) : ℝ) : EReal) := by
  pointwise [val_main_v63, val_main_v62, val_main_v61, val_main_v60, val_main_cst_19]
  rw [v34_at, v59_at, v55_at, word_two]
  exact cheb_step 6 _

/-- of degree 9, -/
theorem v67_at : val_main_v67 (F := Ideal) x3 (ix4 0 n k j) = ((cheb 9 (chebPos (dist x3 n k j)) : ℝ) : EReal) := by
  pointwise [val_main_v67, val_main_v66, val_main_v65, val_main_v64, val_main_cst_20]
  rw [v34_at, v63_at, v59_at, word_two]
  exact cheb_step 7 _

/-- of degree 10, -/
theorem v71_at : val_main_v71 (F := Ideal) x3 (ix4 0 n k j) = ((cheb 10 (chebPos (dist x3 n k j)) : ℝ) : EReal) := by
  pointwise [val_main_v71, val_main_v70, val_main_v69, val_main_v68, val_main_cst_21]
  rw [v34_at, v67_at, v63_at, word_two]
  exact cheb_step 8 _

/-- of degree 11. -/
theorem v75_at : val_main_v75 (F := Ideal) x3 (ix4 0 n k j) = ((cheb 11 (chebPos (dist x3 n k j)) : ℝ) : EReal) := by
  pointwise [val_main_v75, val_main_v74, val_main_v73, val_main_v72, val_main_cst_22]
  rw [v34_at, v71_at, v67_at, word_two]
  exact cheb_step 9 _

/-- The twelve polynomials stacked: entry `a` on the last axis is the polynomial of degree `a`. -/
theorem v88_at (a : Fin 12) :
    val_main_v88 (F := Ideal) x3 (ix5 0 n k j a) = ((cheb a.val (chebPos (dist x3 n k j)) : ℝ) : EReal) := by
  unfold val_main_v88
  refine (concatenate_ofFn_unit_apply (t := S1x10000x2x64x12) (s₁ := S1x10000x2x64x1) 4 (fun a : Fin 12 => ![val_main_v76 (F := Ideal), val_main_v77 (F := Ideal) x3, val_main_v78 (F := Ideal) x3, val_main_v79 (F := Ideal) x3, val_main_v80 (F := Ideal) x3, val_main_v81 (F := Ideal) x3, val_main_v82 (F := Ideal) x3, val_main_v83 (F := Ideal) x3, val_main_v84 (F := Ideal) x3, val_main_v85 (F := Ideal) x3, val_main_v86 (F := Ideal) x3, val_main_v87 (F := Ideal) x3] a) _ rfl rfl _ a rfl (ix5 0 n k j 0) ?_).trans ?_
  · intro b hb
    fin_cases b
    · rfl
    · rfl
    · rfl
    · rfl
    · exact absurd rfl hb
  fin_cases a
  · pointwise [val_main_v76]
    exact v35_at x3 n k j
  · pointwise [val_main_v77]
    exact v34_at x3 n k j
  · pointwise [val_main_v78]
    exact v39_at x3 n k j
  · pointwise [val_main_v79]
    exact v43_at x3 n k j
  · pointwise [val_main_v80]
    exact v47_at x3 n k j
  · pointwise [val_main_v81]
    exact v51_at x3 n k j
  · pointwise [val_main_v82]
    exact v55_at x3 n k j
  · pointwise [val_main_v83]
    exact v59_at x3 n k j
  · pointwise [val_main_v84]
    exact v63_at x3 n k j
  · pointwise [val_main_v85]
    exact v67_at x3 n k j
  · pointwise [val_main_v86]
    exact v71_at x3 n k j
  · pointwise [val_main_v87]
    exact v75_at x3 n k j

end Cert.ReferenceIdeal.Read

end
-- ==== Proof.RefValue.lean ====
/-
  The reference, one atom at an index: its eight features, its network's layers, its energy; and the two results, the
  total of the energies and the energies themselves.
-/
module

public import proofs.«01_k».proof.Proof.Model
public import proofs.«01_k».proof.Proof.RefTake
public import proofs.«01_k».proof.Proof.RefBasis

@[expose] public section

set_option maxRecDepth 16384

noncomputable section

namespace Cert.ReferenceIdeal.Read

open Cert.ReferenceIdeal Cert.ReferenceIdeal.Gen Cert.Model
open Idealize.ShloMosaic Idealize.ShloMosaic.TcCoe

variable (x1 : S10000.Idx → BitVec 32) (x3 : S1x10000x128x4.Idx → EReal) (x4 : S1x10000x2.Idx → BitVec 32)
  (x6 : S2x2x8x12.Idx → EReal) (x7 : S2x64x64.Idx → EReal) (x8 : S2x64.Idx → EReal) (x9 : S2x64x64.Idx → EReal)
  (x10 : S2x64.Idx → EReal) (x11 : S2x64x1.Idx → EReal) (x12 : S2x1.Idx → EReal)
variable (n : Fin 10000) (t : Fin 2)

/-- The features of atom `n` of type `t`. -/
abbrev feat (q : Fin 8) : EReal :=
  feature (fun k q a => x6 (ix4 t k q a)) (fun k j => chebPos (dist x3 n k j))
    (fun k j => weight (dist x3 n k j) ((BitVec.ofNat 32 j.val).slt (x4 (ix3 0 n k)))) q

/-- One pair's contribution to a feature. -/
theorem v94_at (ht : x1 (ix1 n) = BitVec.ofNat 32 t.val) (k : Fin 2) (j : Fin 64) (q : Fin 8) :
    val_main_v94 (F := Ideal) x1 x3 x4 x6 (ix5 0 n k j q)
      = (∑ a : Fin 12, x6 (ix4 t k q a) * ((cheb a.val (chebPos (dist x3 n k j)) : ℝ) : EReal))
        * ((weight (dist x3 n k j) ((BitVec.ofNat 32 j.val).slt (x4 (ix3 0 n k))) : ℝ) : EReal) := by
  pointwise [val_main_v94, val_main_v93, val_main_v92, val_main_v91, val_main_v90]
  rw [v27_at]
  simp only [v88_at, take_6 x1 n t ht]

/-- The features. -/
theorem v97_at (ht : x1 (ix1 n) = BitVec.ofNat 32 t.val) (q : Fin 8) :
    val_main_v97 (F := Ideal) x1 x3 x4 x6 (ix3 0 n q) = feat x3 x4 x6 n t q := by
  pointwise [val_main_v97, val_main_v96, val_main_v95, val_main_cst_23, val_main_cst_24]
  simp only [v94_at x1 x3 x4 x6 n t ht, word_sixty_four]
  rfl

/-- The products of two features, 64 in all. -/
theorem v103_at (ht : x1 (ix1 n) = BitVec.ofNat 32 t.val) (i : Fin 64) :
    val_main_v103 (F := Ideal) x1 x3 x4 x6 (ix3 0 n i)
      = feat x3 x4 x6 n t ⟨i.val / 8, by omega⟩ * feat x3 x4 x6 n t ⟨i.val % 8, by omega⟩ := by
  pointwise [val_main_v103, val_main_v102, val_main_v101, val_main_v100, val_main_v99, val_main_v98]
  simp only [v97_at x1 x3 x4 x6 n t ht]

/-- The first hidden layer, -/
theorem v110_at (ht : x1 (ix1 n) = BitVec.ofNat 32 t.val) (h : Fin 64) :
    val_main_v110 (F := Ideal) x1 x3 x4 x6 x7 x8 (ix3 0 n h)
      = Ideal.tanh ((∑ i : Fin 64, x7 (ix3 t i h)
          * (feat x3 x4 x6 n t ⟨i.val / 8, by omega⟩ * feat x3 x4 x6 n t ⟨i.val % 8, by omega⟩)) + x8 (ix2 t h)) := by
  pointwise [val_main_v110, val_main_v109, val_main_v108, val_main_v106, val_main_v105]
  simp only [v103_at x1 x3 x4 x6 n t ht, take_7 x1 n t ht, take_8 x1 n t ht]

/-- the second, -/
theorem v117_at (ht : x1 (ix1 n) = BitVec.ofNat 32 t.val) (h : Fin 64) :
    val_main_v117 (F := Ideal) x1 x3 x4 x6 x7 x8 x9 x10 (ix3 0 n h)
      = Ideal.tanh ((∑ i : Fin 64, x9 (ix3 t i h) * val_main_v110 (F := Ideal) x1 x3 x4 x6 x7 x8 (ix3 0 n i)) + x10 (ix2 t h)) := by
  pointwise [val_main_v117, val_main_v116, val_main_v115, val_main_v113, val_main_v112]
  simp only [take_9 x1 n t ht, take_10 x1 n t ht]

/-- and the energy of atom `n` of type `t`. -/
theorem v123_at (ht : x1 (ix1 n) = BitVec.ofNat 32 t.val) :
    val_main_v123 (F := Ideal) x1 x3 x4 x6 x7 x8 x9 x10 x11 x12 (ix3 0 n 0)
      = atomEnergy Ideal.tanh (fun k q a => x6 (ix4 t k q a)) (fun i h => x7 (ix3 t i h)) (fun h => x8 (ix2 t h))
          (fun i h => x9 (ix3 t i h)) (fun h => x10 (ix2 t h)) (fun h => x11 (ix3 t h 0)) (x12 (ix2 t 0))
          (fun k j => x3 (ix4 0 n (lane k j) 0)) (fun k => x4 (ix3 0 n k)) := by
  pointwise [val_main_v123, val_main_v122, val_main_v120, val_main_v119]
  simp only [take_11 x1 n t ht, take_12 x1 n t ht, v117_at x1 x3 x4 x6 x7 x8 x9 x10 n t ht, v110_at x1 x3 x4 x6 x7 x8 n t ht]
  rfl

/-- The second result: every atom's energy. -/
theorem v125_at : val_main_v125 (F := Ideal) x1 x3 x4 x6 x7 x8 x9 x10 x11 x12 (ix2 0 n)
    = val_main_v123 (F := Ideal) x1 x3 x4 x6 x7 x8 x9 x10 x11 x12 (ix3 0 n 0) := by
  pointwise [val_main_v125]

/-- The first result: their total. -/
theorem v124_at : val_main_v124 (F := Ideal) x1 x3 x4 x6 x7 x8 x9 x10 x11 x12 (ix2 0 0)
    = ∑ n : Fin 10000, val_main_v123 (F := Ideal) x1 x3 x4 x6 x7 x8 x9 x10 x11 x12 (ix3 0 n 0) := by
  pointwise [val_main_v124, val_main_cst_25]

end Cert.ReferenceIdeal.Read

end
-- ==== Proof.Equation.lean ====
/-
  The equation of the two programs: from memories that agree on the arguments, where every atom's type is 0 or 1, the
  reference's results are the total and the row of energies that the kernel's launch leaves.
-/
module

public import proofs.«01_k».proof.Proof.Arrays
public import proofs.«01_k».proof.Proof.RefValue

@[expose] public section

set_option maxRecDepth 16384

noncomputable section

namespace Cert.Equation

open Cert.Model Cert.KernelIdeal.Run
open Idealize.ShloMosaic Idealize.ShloMosaic.TcCoe

variable (m : (ℓ : Loc Cert.KernelIdeal.nD Cert.KernelIdeal.τ Cert.KernelIdeal.sig) → Buf (Elt Ideal) ℓ) (c : Dev Cert.KernelIdeal.nD)
variable (T : Fin 10000 → Fin 2)

/-- The value of a stage of the reference at the kernel's arguments. -/
abbrev atArgs {α : Type} (f : (Cert.ReferenceIdeal.S10000.Idx → BitVec 32) → (Cert.ReferenceIdeal.S1x10000x128x4.Idx → EReal)
    → (Cert.ReferenceIdeal.S1x10000x2.Idx → BitVec 32) → (Cert.ReferenceIdeal.S2x2x8x12.Idx → EReal)
    → (Cert.ReferenceIdeal.S2x64x64.Idx → EReal) → (Cert.ReferenceIdeal.S2x64.Idx → EReal) → (Cert.ReferenceIdeal.S2x64x64.Idx → EReal)
    → (Cert.ReferenceIdeal.S2x64.Idx → EReal) → (Cert.ReferenceIdeal.S2x64x1.Idx → EReal) → (Cert.ReferenceIdeal.S2x1.Idx → EReal) → α) : α :=
  f (m (c, Proc.devRef .tc Cert.KernelIdeal.main_arg1)) (m (c, Proc.devRef .tc Cert.KernelIdeal.main_arg3))
    (m (c, Proc.devRef .tc Cert.KernelIdeal.main_arg4)) (m (c, Proc.devRef .tc Cert.KernelIdeal.main_arg6))
    (m (c, Proc.devRef .tc Cert.KernelIdeal.main_arg7)) (m (c, Proc.devRef .tc Cert.KernelIdeal.main_arg8))
    (m (c, Proc.devRef .tc Cert.KernelIdeal.main_arg9)) (m (c, Proc.devRef .tc Cert.KernelIdeal.main_arg10))
    (m (c, Proc.devRef .tc Cert.KernelIdeal.main_arg11)) (m (c, Proc.devRef .tc Cert.KernelIdeal.main_arg12))

/-- The reference's energy of an atom, at the kernel's arguments, is the kernel's. -/
theorem ref_energy (hT : HasTypes m c T) (n : Fin 10000) :
    atArgs m c (Cert.ReferenceIdeal.Read.val_main_v123 (F := Ideal)) (ix3 0 n 0) = energyAt m c (T n) n :=
  Cert.ReferenceIdeal.Read.v123_at _ _ _ _ _ _ _ _ _ _ n (T n) (hT n)

/-- The reference's row of energies is the kernel's. -/
theorem ref_row (hT : HasTypes m c T) :
    atArgs m c (Cert.ReferenceIdeal.Read.val_main_v125 (F := Ideal)) = energyRow m c T := by
  funext j
  obtain ⟨k, n, rfl⟩ : ∃ (k : Fin 1) (n : Fin 10000), j = (ix2 k n : Cert.ReferenceIdeal.S1x10000.Idx) :=
    ⟨j 0, j 1, funext fun a => by match a with | ⟨0, _⟩ => rfl | ⟨1, _⟩ => rfl⟩
  obtain rfl : k = 0 := Subsingleton.elim _ _
  exact (Cert.ReferenceIdeal.Read.v125_at _ _ _ _ _ _ _ _ _ _ n).trans (ref_energy m c T hT n)

/-- The reference's total is the kernel's. -/
theorem ref_sum (hT : HasTypes m c T) :
    atArgs m c (Cert.ReferenceIdeal.Read.val_main_v124 (F := Ideal)) = energySum m c T := by
  funext j
  obtain ⟨i, k, rfl⟩ : ∃ (i k : Fin 1), j = (ix2 i k : Cert.ReferenceIdeal.S1x1.Idx) :=
    ⟨j 0, j 1, funext fun a => by match a with | ⟨0, _⟩ => rfl | ⟨1, _⟩ => rfl⟩
  obtain rfl : i = 0 := Subsingleton.elim _ _
  obtain rfl : k = 0 := Subsingleton.elim _ _
  exact (Cert.ReferenceIdeal.Read.v124_at _ _ _ _ _ _ _ _ _ _).trans (Finset.sum_congr rfl fun n _ => ref_energy m c T hT n)

/-- A function of the ten arguments that count has one value at arguments that agree. -/
theorem agree {α : Type} {β₁ β₂ β₃ β₄ β₅ β₆ β₇ β₈ β₉ β₁₀ : Type} (f : β₁ → β₂ → β₃ → β₄ → β₅ → β₆ → β₇ → β₈ → β₉ → β₁₀ → α)
    {x₁ y₁ : β₁} {x₂ y₂ : β₂} {x₃ y₃ : β₃} {x₄ y₄ : β₄} {x₅ y₅ : β₅} {x₆ y₆ : β₆} {x₇ y₇ : β₇} {x₈ y₈ : β₈} {x₉ y₉ : β₉}
    {x₁₀ y₁₀ : β₁₀} (h₁ : x₁ = y₁) (h₂ : x₂ = y₂) (h₃ : x₃ = y₃) (h₄ : x₄ = y₄) (h₅ : x₅ = y₅) (h₆ : x₆ = y₆) (h₇ : x₇ = y₇)
    (h₈ : x₈ = y₈) (h₉ : x₉ = y₉) (h₁₀ : x₁₀ = y₁₀) :
    f x₁ x₂ x₃ x₄ x₅ x₆ x₇ x₈ x₉ x₁₀ = f y₁ y₂ y₃ y₄ y₅ y₆ y₇ y₈ y₉ y₁₀ := by
  subst h₁ h₂ h₃ h₄ h₅ h₆ h₇ h₈ h₉ h₁₀
  rfl

end Cert.Equation

end
-- ==== Proof.lean ====
/-
  The proof of `Cert.Claim`: the three programs' frames, and the equality of the kernel's two results with the
  reference's over the extended reals. The mathematics is in the modules under Proof/; this one puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Types
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

attribute [local instance] Cert.Pre_types_in_range.facts

/-- The idealized kernel's run ends with the arguments unchanged and every semaphore counter at zero. -/
theorem frame_KernelIdeal : Cert.quiescent_KernelIdeal := fun m g _ =>
  θ_run_with_sems (Cert.KernelIdeal.Gen.frame_of m g (Cert.KernelIdeal.Run.dats m) (Cert.KernelIdeal.Run.A_eq m))
    (Cert.KernelIdeal.Run.run_main_quiescent m g)

/-- So does the reference's, which declares no semaphore. -/
theorem frame_ReferenceIdeal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- From memories that agree on the arguments, where every atom's type is 0 or 1, the kernel and the reference end with
    the same total and the same row of energies. -/
theorem algebraic : Cert.algebraic_KernelIdeal_ReferenceIdeal_pre_types_in_range := by
  intro m g m' g' hpre hag
  have hex : ∀ c : Dev Cert.KernelIdeal.nD, ∃ T, Cert.KernelIdeal.Run.HasTypes m c T := fun c =>
    Cert.Pre_types_in_range.types_exist _ _ _ _ _ _ _ _ _ _ _ _ _ (hpre c)
  choose T hT using hex
  refine ⟨fun c => Cert.KernelIdeal.Run.energySum m c (T c), fun c => Cert.KernelIdeal.Run.energyRow m c (T c), ?_, ?_⟩
  · exact (θ_run Cert.KernelIdeal.defs _ _).mono (fun r h c => ⟨(h.2 c).1, (h.2 c).2, h.1.1 c⟩)
      (θ_run_and (frame_KernelIdeal m g trivial) (Cert.KernelIdeal.Run.run_values m g T hT))
  · refine (θ_run Cert.ReferenceIdeal.defs _ _).mono (fun r h c => ⟨(h c).1.trans ?_, (h c).2.1.trans ?_, (h c).2.2⟩)
      (Cert.ReferenceIdeal.Value.run (F := Ideal) m' g')
    · obtain ⟨-, e1, -, e3, e4, -, e6, e7, e8, e9, e10, e11, e12⟩ := hag c
      exact ((Cert.ReferenceIdeal.Read.val_main_v124_eq (F := Ideal) (StableHlo.launchContents m' c)).trans
        (Cert.Equation.agree _ e1 e3 e4 e6 e7 e8 e9 e10 e11 e12)).trans (Cert.Equation.ref_sum m c (T c) (hT c))
    · obtain ⟨-, e1, -, e3, e4, -, e6, e7, e8, e9, e10, e11, e12⟩ := hag c
      exact ((Cert.ReferenceIdeal.Read.val_main_v125_eq (F := Ideal) (StableHlo.launchContents m' c)).trans
        (Cert.Equation.agree _ e1 e3 e4 e6 e7 e8 e9 e10 e11 e12)).trans (Cert.Equation.ref_row m c (T c) (hT c))

/-- Everything the certificate claims. -/
theorem claim : Cert.Claim :=
  ⟨Cert.Kernel.Gen.facts, Cert.KernelIdeal.Gen.facts, Cert.ReferenceIdeal.Gen.facts, Cert.Pre_types_in_range.facts,
    Cert.KernelFrame.frame, frame_KernelIdeal, fun m g _ => frame_KernelIdeal m g trivial,
    frame_ReferenceIdeal, fun m g _ => frame_ReferenceIdeal m g trivial, trivial, algebraic⟩

end Cert.Proof

end
